-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_range [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_in_range [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_targets_in_range [hKernelIdeal : Cert.KernelIdeal.Facts] [hReferenceIdeal : Cert.ReferenceIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in_range : Cert.Pre_targets_in_range.Facts),
    quiescent_Kernel (hKernel := hKernel)
    ∧ quiescent_KernelIdeal (hKernelIdeal := hKernelIdeal)
    ∧ quiescent_KernelIdeal_pre_targets_in_range (hKernelIdeal := hKernelIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ preserves_Kernel_KernelIdeal
    ∧ algebraic_KernelIdeal_ReferenceIdeal_pre_targets_in_range (hKernelIdeal := hKernelIdeal) (hReferenceIdeal := hReferenceIdeal) (hPre_targets_in_range := hPre_targets_in_range)
-- ==== Pre_targets_in_range.lean ====
abbrev S8192x128 : Shape := ⟨2, ![8192, 128]⟩
abbrev S8192x2 : Shape := ⟨2, ![8192, 2]⟩
abbrev S8192x1 : Shape := ⟨2, ![8192, 1]⟩
abbrev S8192 : Shape := ⟨1, ![8192]⟩
abbrev S_ : Shape := ⟨0, ![]⟩

class Facts : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192x128 .f32) (main_arg1 : FVec F S8192x2 .f32) : IVec S8192 1 :=
  let main_v0 : FVec F S8192x1 .f32 := (extractStridedSlice S8192x1 ![0, 0] · slices_S8192x2_S8192x1_0_0) main_arg1
  let main_v1 : FVec F S8192 .f32 := shapeCast S8192 main_v0 shapeCasts_S8192x1_S8192
  let main_v2 : FVec F S8192x1 .f32 := (extractStridedSlice S8192x1 ![0, 1] · slices_S8192x2_S8192x1_0_1) main_arg1
  let main_v3 : FVec F S8192 .f32 := shapeCast S8192 main_v2 shapeCasts_S8192x1_S8192
  let main_cst : FVec F S_ .f32 := constant S_ .f32 0x00000000#32
  let main_v4 : FVec F S8192 .f32 := broadcastInDim S8192 ![] bcast_S_S8192 main_cst
  let main_v5 : IVec S8192 1 := cmpf .oge main_v1 main_v4
  let main_cst_0 : FVec F S_ .f32 := constant S_ .f32 0xFF800000#32
  let main_v6 : FVec F S_ .f32 := (fun x v => Host.reduce FloatOps.maximumf x v reducesTo_S8192_S_d0 h_S_) main_v1 main_cst_0
  let main_cst_1 : FVec F S_ .f32 := constant S_ .f32 0x00000000#32
  let main_v7 : IVec S_ 1 := cmpf .ogt main_v6 main_cst_1
  let main_v8 : IVec S8192 1 := broadcastInDim S8192 ![] bcast_S_S8192 main_v7
  let main_v9 : IVec S8192 1 := andi main_v5 main_v8
  let main_cst_2 : FVec F S_ .f32 := constant S_ .f32 0x00000000#32
  let main_v10 : FVec F S8192 .f32 := broadcastInDim S8192 ![] bcast_S_S8192 main_cst_2
  let main_v11 : IVec S8192 1 := cmpf .oeq main_v3 main_v10
  let main_cst_3 : FVec F S_ .f32 := constant S_ .f32 0x3F800000#32
  let main_v12 : FVec F S8192 .f32 := broadcastInDim S8192 ![] bcast_S_S8192 main_cst_3
  let main_v13 : IVec S8192 1 := cmpf .oeq main_v3 main_v12
  let main_v14 : IVec S8192 1 := ori main_v11 main_v13
  let main_v15 : IVec S8192 1 := andi main_v9 main_v14
  main_v15
-- ==== Kernel.lean ====
abbrev S8192x128 : Shape := ⟨2, ![8192, 128]⟩
abbrev S8192x2 : Shape := ⟨2, ![8192, 2]⟩
abbrev S8192x1 : Shape := ⟨2, ![8192, 1]⟩
abbrev S8192 : Shape := ⟨1, ![8192]⟩
abbrev S_ : Shape := ⟨0, ![]⟩
abbrev S128 : Shape := ⟨1, ![128]⟩
abbrev S128x1 : Shape := ⟨2, ![128, 1]⟩
abbrev S1x8192 : Shape := ⟨2, ![1, 8192]⟩
abbrev S128x8192 : Shape := ⟨2, ![128, 8192]⟩
abbrev S1x128 : Shape := ⟨2, ![1, 128]⟩
abbrev S4 : Shape := ⟨1, ![4]⟩
abbrev S1x512 : Shape := ⟨2, ![1, 512]⟩
abbrev S128x512 : Shape := ⟨2, ![128, 512]⟩
abbrev S512x128 : Shape := ⟨2, ![512, 128]⟩
abbrev S512x512 : Shape := ⟨2, ![512, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S1024x128 : Shape := ⟨2, ![1024, 128]⟩
abbrev S1024x512 : Shape := ⟨2, ![1024, 512]⟩
abbrev S1024x1 : Shape := ⟨2, ![1024, 1]⟩
abbrev S1x1 : Shape := ⟨2, ![1, 1]⟩

abbrev nBuf : Space → Nat
  | .hbm => 27
  | .vmem => 6
  | .smem => 1
  | _ => 0

abbrev bufTy : (tb : Table) → Fin (tcTables nBuf tb) → BufTy
  | .hbm, ⟨0, _⟩ => ⟨S8192x128, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .i32⟩
  | .hbm, ⟨14, _⟩ => ⟨S128, .i32⟩
  | .hbm, ⟨15, _⟩ => ⟨S128x1, .i32⟩
  | .hbm, ⟨16, _⟩ => ⟨S1x8192, .i32⟩
  | .hbm, ⟨17, _⟩ => ⟨S128x8192, .i32⟩
  | .hbm, ⟨18, _⟩ => ⟨S128x8192, .i32⟩
  | .hbm, ⟨19, _⟩ => ⟨S128x8192, .i1⟩
  | .hbm, ⟨20, _⟩ => ⟨S128x8192, .f32⟩
  | .hbm, ⟨21, _⟩ => ⟨S1x8192, .f32⟩
  | .hbm, ⟨22, _⟩ => ⟨S8192x1, .f32⟩
  | .hbm, ⟨23, _⟩ => ⟨S1x8192, .f32⟩
  | .hbm, ⟨24, _⟩ => ⟨S1x128, .f32⟩
  | .hbm, ⟨25, _⟩ => ⟨S1x1, .f32⟩
  | .hbm, ⟨26, _⟩ => ⟨S_, .f32⟩
  | .local _ .vmem, ⟨0, _⟩ => ⟨S8192x128, .f32⟩
  | .local _ .vmem, ⟨1, _⟩ => ⟨S128x8192, .f32⟩
  | .local _ .vmem, ⟨2, _⟩ => ⟨S1x8192, .f32⟩
  | .local _ .vmem, ⟨3, _⟩ => ⟨S8192x1, .f32⟩
  | .local _ .vmem, ⟨4, _⟩ => ⟨S1x8192, .f32⟩
  | .local _ .vmem, ⟨5, _⟩ => ⟨S1x128, .f32⟩
  | .local _ .smem, ⟨0, _⟩ => ⟨S4, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0 : Index := 0#32
  let arg0 : BitVec 32 := BitVec.ofNat 32 (i 0).val
  let c512_i32 : BitVec 32 := 512#32
  let v0 : BitVec 32 := Scalar.muli arg0 c512_i32
  let v1 : Index := Scalar.indexCast v0
  ![0, v1.toNat]
def k0_off2 (i : grid0.Coords) : Fin 2 → Nat :=
  let c0_1 : Index := 0#32
  let arg0 : BitVec 32 := BitVec.ofNat 32 (i 0).val
  let c512_i32 : BitVec 32 := 512#32
  let v0 : BitVec 32 := Scalar.muli arg0 c512_i32
  let v7 : Index := Scalar.indexCast v0
  ![0, v7.toNat]
def k0_off3 (i : grid0.Coords) : Fin 2 → Nat :=
  let arg0 : BitVec 32 := BitVec.ofNat 32 (i 0).val
  let c512_i32 : BitVec 32 := 512#32
  let v0 : BitVec 32 := Scalar.muli arg0 c512_i32
  let v10 : Index := Scalar.indexCast v0
  let c0_2 : Index := 0#32
  ![v10.toNat, 0]
def k0_cond2 (i : grid0.Coords) : BitVec 1 :=
  let arg0 : BitVec 32 := BitVec.ofNat 32 (i 0).val
  let c15_i32 : BitVec 32 := 15#32
  let v236 : BitVec 1 := Scalar.cmpi .eq arg0 c15_i32
  let v237 : BitVec 32 := Scalar.extui v236
  let c0_i32_98 : BitVec 32 := 0#32
  let v238 : BitVec 1 := Scalar.cmpi .ne v237 c0_i32_98
  v238

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x128 : Shape := ⟨2, ![8192, 128]⟩
abbrev S8192x2 : Shape := ⟨2, ![8192, 2]⟩
abbrev S8192x1 : Shape := ⟨2, ![8192, 1]⟩
abbrev S8192 : Shape := ⟨1, ![8192]⟩
abbrev S_ : Shape := ⟨0, ![]⟩
abbrev S1 : Shape := ⟨1, ![1]⟩
abbrev S1x1 : Shape := ⟨2, ![1, 1]⟩
abbrev S8192x8192 : Shape := ⟨2, ![8192, 8192]⟩
abbrev S1x8192 : Shape := ⟨2, ![1, 8192]⟩

abbrev nBuf : Space → Nat
  | .hbm => 121
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S8192x1, .i32⟩
  | .hbm, ⟨31, _⟩ => ⟨S8192x2, .i32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .i1⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S1, .i32⟩
  | .hbm, ⟨58, _⟩ => ⟨S_, .i32⟩
  | .hbm, ⟨59, _⟩ => ⟨S8192x1, .i32⟩
  | .hbm, ⟨60, _⟩ => ⟨S8192x1, .i1⟩
  | .hbm, ⟨61, _⟩ => ⟨S1x1, .i32⟩
  | .hbm, ⟨62, _⟩ => ⟨S8192x1, .i32⟩
  | .hbm, ⟨63, _⟩ => ⟨S8192x1, .i1⟩
  | .hbm, ⟨64, _⟩ => ⟨S8192x1, .i1⟩
  | .hbm, ⟨65, _⟩ => ⟨S_, .i1⟩
  | .hbm, ⟨66, _⟩ => ⟨S8192, .i1⟩
  | .hbm, ⟨67, _⟩ => ⟨S8192x8192, .f32⟩
  | .hbm, ⟨68, _⟩ => ⟨S8192x8192, .i1⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x1, .f32⟩
  | .hbm, ⟨74, _⟩ => ⟨S1x8192, .f32⟩
  | .hbm, ⟨75, _⟩ => ⟨S8192x8192, .f32⟩
  | .hbm, ⟨76, _⟩ => ⟨S8192x8192, .f32⟩
  | .hbm, ⟨77, _⟩ => ⟨S8192x8192, .i1⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .i1⟩
  | .hbm, ⟨82, _⟩ => ⟨S8192x8192, .i1⟩
  | .hbm, ⟨83, _⟩ => ⟨S8192x8192, .i1⟩
  | .hbm, ⟨84, _⟩ => ⟨S8192x1, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .i32⟩
  | .hbm, ⟨91, _⟩ => ⟨S_, .i32⟩
  | .hbm, ⟨92, _⟩ => ⟨S_, .i32⟩
  | .hbm, ⟨93, _⟩ => ⟨S_, .f32⟩
  | .hbm, ⟨94, _⟩ => ⟨S_, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .i32⟩
  | .hbm, ⟨102, _⟩ => ⟨S_, .i1⟩
  | .hbm, ⟨103, _⟩ => ⟨S_, .i32⟩
  | .hbm, ⟨104, _⟩ => ⟨S_, .i32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S_, .f32⟩
  | .hbm, ⟨115, _⟩ => ⟨S8192, .f32⟩
  | .hbm, ⟨116, _⟩ => ⟨S8192, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call2_cst : Ref sig .tc := ⟨.hbm, 87, rfl⟩
abbrev main_call2_v0 : Ref sig .tc := ⟨.hbm, 88, rfl⟩
abbrev main_v50 : Ref sig .tc := ⟨.hbm, 89, rfl⟩
abbrev main_v51 : Ref sig .tc := ⟨.hbm, 90, rfl⟩
abbrev main_c_9 : Ref sig .tc := ⟨.hbm, 91, rfl⟩
abbrev main_v52 : Ref sig .tc := ⟨.hbm, 92, rfl⟩
abbrev main_cst_10 : Ref sig .tc := ⟨.hbm, 93, rfl⟩
abbrev main_call3_v0 : Ref sig .tc := ⟨.hbm, 94, rfl⟩
abbrev main_call3_v1 : Ref sig .tc := ⟨.hbm, 95, rfl⟩
abbrev main_v53 : Ref sig .tc := ⟨.hbm, 96, rfl⟩
abbrev main_cst_11 : Ref sig .tc := ⟨.hbm, 97, rfl⟩
abbrev main_v54 : Ref sig .tc := ⟨.hbm, 98, rfl⟩
abbrev main_cst_12 : Ref sig .tc := ⟨.hbm, 99, rfl⟩
abbrev main_v55 : Ref sig .tc := ⟨.hbm, 100, rfl⟩
abbrev main_c_13 : Ref sig .tc := ⟨.hbm, 101, rfl⟩
abbrev main_v56 : Ref sig .tc := ⟨.hbm, 102, rfl⟩
abbrev main_c_14 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_15 : Ref sig .tc := ⟨.hbm, 107, rfl⟩
abbrev main_call4_v0 : Ref sig .tc := ⟨.hbm, 108, rfl⟩
abbrev main_v60 : Ref sig .tc := ⟨.hbm, 109, rfl⟩
abbrev main_cst_16 : Ref sig .tc := ⟨.hbm, 110, rfl⟩
abbrev main_v61 : Ref sig .tc := ⟨.hbm, 111, rfl⟩
abbrev main_v62 : Ref sig .tc := ⟨.hbm, 112, rfl⟩
abbrev main_cst_17 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_18 : Ref sig .tc := ⟨.hbm, 117, rfl⟩
abbrev main_v66 : Ref sig .tc := ⟨.hbm, 118, rfl⟩
abbrev main_cst_19 : Ref sig .tc := ⟨.hbm, 119, rfl⟩
abbrev main_v67 : Ref sig .tc := ⟨.hbm, 120, rfl⟩

abbrev nD : Nat := 1
abbrev τ : Topo := Topo.v7x

variable {F : FTy → Type} [FloatOps F]
-- ==== Proof.BodyIdeal.lean ====
module

public import proofs.«01_k».proof.Proof.Gen.KernelIdeal.Frame
public import proofs.«01_k».proof.Proof.Gen.KernelIdeal.Skeleton
public import Idealize.ShloMosaic.Lib.CellWrites
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the zeroing branch, as the body computes it from the grid coordinate. -/
def isFirst (i : grid0.Coords) : BitVec 1 :=
  Scalar.cmpi .ne (Scalar.extui (Scalar.cmpi .eq (BitVec.ofNat 32 (i 0).val) 0#32) : BitVec 32) 0#32

/-! ## What one point reads, and what it adds to the three accumulators -/

/-- The 512 durations of point `i`'s lanes. -/
def durB (i : grid0.Coords) (x3 : Vec F S1x8192 .f32) : FVec F S1x512 .f32 :=
  k0_pay2 (View.ld x3 (Rect.unit (s := S1x8192) (k0_off1 i) S1x512.size (k0_off1_inb i)))
/-- The 512 event indicators of point `i`'s lanes. -/
def evB (i : grid0.Coords) (x5 : Vec F S1x8192 .f32) : Vec F S1x512 .f32 :=
  View.ld x5 (Rect.unit (s := S1x8192) (k0_off1 i) S1x512.size (k0_off1_inb i))
/-- The 512 one-hot columns of point `i`'s lanes. -/
def ohB (i : grid0.Coords) (x2 : Vec F S128x8192 .f32) : Vec F S128x512 .f32 :=
  View.ld x2 (Rect.unit (s := S128x8192) (k0_off2 i) S128x512.size (k0_off2_inb i))
/-- The 512 rows of predictions of point `i`'s lanes. -/
def prB (i : grid0.Coords) (x1 : Vec F S8192x128 .f32) : Vec F S512x128 .f32 :=
  View.ld x1 (Rect.unit (s := S8192x128) (k0_off3 i) S512x128.size (k0_off3_inb i))
/-- The predictions of each lane's own row at its own bin. -/
def gB (i : grid0.Coords) (x1 : Vec F S8192x128 .f32) (x2 : Vec F S128x8192 .f32) : FVec F S1x512 .f32 :=
  k0_pay5 (ohB i x2) (prB i x1)
/-- The predictions a lane is compared with: its own where the event occurred, infinity elsewhere. -/
def geB (i : grid0.Coords) (x1 : Vec F S8192x128 .f32) (x2 : Vec F S128x8192 .f32) (x5 : Vec F S1x8192 .f32) : FVec F S1x512 .f32 :=
  k0_pay8 (k0_pay3 (evB i x5)) (gB i x1 x2) (Scalar.ofBits .f32 0x3F800000#32)

/-- Rows 0 to 1023 of the predictions. -/
def pC0 (x1 : Vec F S8192x128 .f32) : Vec F S1024x128 .f32 :=
  View.ld x1 (Rect.unit (s := S8192x128) ![0, 0] S1024x128.size inb_S8192x128_S1024x128_0_0)
/-- Rows 0 to 1023 of the durations. -/
def dC0 (x4 : Vec F S8192x1 .f32) : Vec F S1024x1 .f32 :=
  View.ld x4 (Rect.unit (s := S8192x1) ![0, 0] S1024x1.size inb_S8192x1_S1024x1_0_0)
/-- Rows 1024 to 2047 of the predictions. -/
def pC1 (x1 : Vec F S8192x128 .f32) : Vec F S1024x128 .f32 :=
  View.ld x1 (Rect.unit (s := S8192x128) ![1024, 0] S1024x128.size inb_S8192x128_S1024x128_1024_0)
/-- Rows 1024 to 2047 of the durations. -/
def dC1 (x4 : Vec F S8192x1 .f32) : Vec F S1024x1 .f32 :=
  View.ld x4 (Rect.unit (s := S8192x1) ![1024, 0] S1024x1.size inb_S8192x1_S1024x1_1024_0)
/-- Rows 2048 to 3071 of the predictions. -/
def pC2 (x1 : Vec F S8192x128 .f32) : Vec F S1024x128 .f32 :=
  View.ld x1 (Rect.unit (s := S8192x128) ![2048, 0] S1024x128.size inb_S8192x128_S1024x128_2048_0)
/-- Rows 2048 to 3071 of the durations. -/
def dC2 (x4 : Vec F S8192x1 .f32) : Vec F S1024x1 .f32 :=
  View.ld x4 (Rect.unit (s := S8192x1) ![2048, 0] S1024x1.size inb_S8192x1_S1024x1_2048_0)
/-- Rows 3072 to 4095 of the predictions. -/
def pC3 (x1 : Vec F S8192x128 .f32) : Vec F S1024x128 .f32 :=
  View.ld x1 (Rect.unit (s := S8192x128) ![3072, 0] S1024x128.size inb_S8192x128_S1024x128_3072_0)
/-- Rows 3072 to 4095 of the durations. -/
def dC3 (x4 : Vec F S8192x1 .f32) : Vec F S1024x1 .f32 :=
  View.ld x4 (Rect.unit (s := S8192x1) ![3072, 0] S1024x1.size inb_S8192x1_S1024x1_3072_0)
/-- Rows 4096 to 5119 of the predictions. -/
def pC4 (x1 : Vec F S8192x128 .f32) : Vec F S1024x128 .f32 :=
  View.ld x1 (Rect.unit (s := S8192x128) ![4096, 0] S1024x128.size inb_S8192x128_S1024x128_4096_0)
/-- Rows 4096 to 5119 of the durations. -/
def dC4 (x4 : Vec F S8192x1 .f32) : Vec F S1024x1 .f32 :=
  View.ld x4 (Rect.unit (s := S8192x1) ![4096, 0] S1024x1.size inb_S8192x1_S1024x1_4096_0)
/-- Rows 5120 to 6143 of the predictions. -/
def pC5 (x1 : Vec F S8192x128 .f32) : Vec F S1024x128 .f32 :=
  View.ld x1 (Rect.unit (s := S8192x128) ![5120, 0] S1024x128.size inb_S8192x128_S1024x128_5120_0)
/-- Rows 5120 to 6143 of the durations. -/
def dC5 (x4 : Vec F S8192x1 .f32) : Vec F S1024x1 .f32 :=
  View.ld x4 (Rect.unit (s := S8192x1) ![5120, 0] S1024x1.size inb_S8192x1_S1024x1_5120_0)
/-- Rows 6144 to 7167 of the predictions. -/
def pC6 (x1 : Vec F S8192x128 .f32) : Vec F S1024x128 .f32 :=
  View.ld x1 (Rect.unit (s := S8192x128) ![6144, 0] S1024x128.size inb_S8192x128_S1024x128_6144_0)
/-- Rows 6144 to 7167 of the durations. -/
def dC6 (x4 : Vec F S8192x1 .f32) : Vec F S1024x1 .f32 :=
  View.ld x4 (Rect.unit (s := S8192x1) ![6144, 0] S1024x1.size inb_S8192x1_S1024x1_6144_0)
/-- Rows 7168 to 8191 of the predictions. -/
def pC7 (x1 : Vec F S8192x128 .f32) : Vec F S1024x128 .f32 :=
  View.ld x1 (Rect.unit (s := S8192x128) ![7168, 0] S1024x128.size inb_S8192x128_S1024x128_7168_0)
/-- Rows 7168 to 8191 of the durations. -/
def dC7 (x4 : Vec F S8192x1 .f32) : Vec F S1024x1 .f32 :=
  View.ld x4 (Rect.unit (s := S8192x1) ![7168, 0] S1024x1.size inb_S8192x1_S1024x1_7168_0)

/-- The first accumulator after a point that found `s` there: `s` plus the point's likelihood terms. -/
def likStep (i : grid0.Coords) (x1 : Vec F S8192x128 .f32) (x2 : Vec F S128x8192 .f32) (x5 : Vec F S1x8192 .f32) (s : F .f32) : F .f32 :=
  k0_pay34 (k0_pay7 (evB i x5) (ohB i x2) (prB i x1)) s

/-- The second accumulator after a point that found `s` there: `s` plus the point's ranking terms over all eight chunks of rows. -/
def rankStep (i : grid0.Coords) (x1 : Vec F S8192x128 .f32) (x2 : Vec F S128x8192 .f32) (x3 : Vec F S1x8192 .f32) (x4 : Vec F S8192x1 .f32)
    (x5 : Vec F S1x8192 .f32) (s : F .f32) : F .f32 :=
  k0_pay35 (geB i x1 x2 x5)
    (k0_pay29 (durB i x3) (k0_pay4 (ohB i x2)) (geB i x1 x2 x5)
      (k0_pay21 (durB i x3) (k0_pay4 (ohB i x2)) (geB i x1 x2 x5)
        (k0_pay15 (durB i x3) (k0_pay4 (ohB i x2)) (geB i x1 x2 x5)
          (k0_pay10 (durB i x3) (k0_pay3 (evB i x5)) (k0_pay4 (ohB i x2)) (gB i x1 x2) (Scalar.ofBits .f32 0x3F800000#32) (pC0 x1) (dC0 x4))
          (k0_pay12 (durB i x3) (dC1 x4))
          (k0_pay13 (k0_pay3 (evB i x5)) (k0_pay4 (ohB i x2)) (gB i x1 x2) (Scalar.ofBits .f32 0x3F800000#32) (pC1 x1))
          (Scalar.ofBits .f32 0x00000000#32) (pC2 x1) (dC2 x4))
        (k0_pay17 (k0_pay4 (ohB i x2)) (pC3 x1)) (k0_pay18 (durB i x3) (dC3 x4)) (k0_pay19 (geB i x1 x2 x5)) (pC4 x1) (dC4 x4))
      (k0_pay23 (k0_pay4 (ohB i x2)) (pC5 x1)) (k0_pay24 (durB i x3) (dC5 x4)) k0_pay25 k0_pay26 (pC6 x1) (dC6 x4))
    (k0_pay31 (k0_pay4 (ohB i x2)) (pC7 x1)) (k0_pay32 (durB i x3) (dC7 x4))
    (Scalar.ofBits .f32 0x3F800000#32) (Scalar.ofBits .f32 0x00000000#32) s

/-- The third accumulator after a point that found `s` there: `s` plus the number of the point's comparable pairs. -/
def cntStep (i : grid0.Coords) (x3 : Vec F S1x8192 .f32) (x4 : Vec F S8192x1 .f32) (x5 : Vec F S1x8192 .f32) (s : F .f32) : F .f32 :=
  k0_pay36 (k0_pay6 (evB i x5))
    (k0_pay30 (durB i x3)
      (k0_pay22 (durB i x3)
        (k0_pay16 (durB i x3) (k0_pay11 (durB i x3) (dC0 x4)) (k0_pay12 (durB i x3) (dC1 x4)) (dC2 x4))
        (k0_pay18 (durB i x3) (dC3 x4)) (dC4 x4))
      (k0_pay24 (durB i x3) (dC5 x4)) k0_pay25 k0_pay26 (dC6 x4))
    (k0_pay32 (durB i x3) (dC7 x4)) (Scalar.ofBits .f32 0x3F800000#32) (Scalar.ofBits .f32 0x00000000#32) s

/-- Word `k` of the scratch. -/
abbrev word (k : Fin 4) : S4.Idx := fun d => match d with | ⟨0, _⟩ => k

/-- A load of one word of the scratch, at the word's own place. -/
abbrev ldWord (b : Vec F S4 .f32) (k : ℕ) (inb : ∀ d, (![k] : Fin 1 → ℕ) d + S1.size d ≤ S4.size d) : F .f32 :=
  View.ld b (Rect.unit (s := S4) ![k] S1.size inb) fun d => ⟨0, by fin_cases d; exact Nat.one_pos⟩

theorem ldWord_eq (b : Vec F S4 .f32) (k : ℕ) (inb : ∀ d, (![k] : Fin 1 → ℕ) d + S1.size d ≤ S4.size d) (hk : k < 4) :
    ldWord b k inb = b (word ⟨k, hk⟩) :=
  congrArg b (funext fun d => by fin_cases d; exact Fin.ext rfl)

/-- The first three words of the scratch are `l`, `r` and `n`. -/
def Holds (a : Vec F S4 .f32) (l r n : F .f32) : Prop :=
  a (word 0) = l ∧ a (word 1) = r ∧ a (word 2) = n

set_option maxHeartbeats 4000000 in
/-- The first point: whatever the scratch held, the accumulators end one step after zero; the output buffer is left alone. -/
theorem runFirst (c : Dev nD) (i : grid0.Coords) (arg1 : Memref sig .tc .vmem S8192x128 .f32) (harg1 : arg1.IsWhole)
    (arg2 : Memref sig .tc .vmem S128x8192 .f32) (harg2 : arg2.IsWhole) (arg3 : Memref sig .tc .vmem S1x8192 .f32) (harg3 : arg3.IsWhole)
    (arg4 : Memref sig .tc .vmem S8192x1 .f32) (harg4 : arg4.IsWhole) (arg5 : Memref sig .tc .vmem S1x8192 .f32) (harg5 : arg5.IsWhole)
    (arg6 : Memref sig .tc .vmem S1x128 .f32) (harg6 : arg6.IsWhole) (arg7 : Memref sig .tc .smem S4 .f32) (harg7 : arg7.IsWhole)
    (hc1 :  isFirst i = 1#1) (hc2 : ¬ k0_cond2 i = 1#1)
    (x1 : Vec F S8192x128 .f32) (x2 : Vec F S128x8192 .f32) (x3 : Vec F S1x8192 .f32) (x4 : Vec F S8192x1 .f32) (x5 : Vec F S1x8192 .f32)
    (x6 : Vec F S1x128 .f32) (a : Vec F S4 .f32) (l r n : F .f32) (ha : l = Scalar.ofBits .f32 0x00000000#32 ∧ r = Scalar.ofBits .f32 0x00000000#32 ∧ n = Scalar.ofBits .f32 0x00000000#32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare a
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare (x6)
        ∗ (∃ a' : Vec F S4 .f32, ⌜Holds a' (likStep i x1 x2 x5 l) (rankStep i x1 x2 x3 x4 x5 r) (cntStep i x3 x4 x5 n)⌝
            ∗ owns (c : Thread nD τ) arg7 fullShare a')) -∗ K ⟨⟩))
      ⊢ wp frame (wpE (defs₀ (F := F)) Variants.none c none) E (cc0_deep_hit_loss i arg1 harg1 arg2 harg2 arg3 harg3 arg4 harg4 arg5 harg5 arg6 harg6 arg7 harg7) K := by
  simp only [cc0_deep_hit_loss_eq_skeleton]; unfold cc0_deep_hit_loss_skel
  simp only [k0_part6_eq_skeleton, k0_part5_eq_skeleton, k0_part4_eq_skeleton, k0_part3_eq_skeleton, k0_part2_eq_skeleton, k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | sl_exact hc1 | sl_exact hc2)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  iexists _; isplitr; swap
  · iexists _; isplitr; swap; · iexact H7
    ipureintro; rfl
  ipureintro
  obtain ⟨ha0, ha1, ha2⟩ := ha
  refine ⟨?_, ?_, ?_⟩
  · rw [View.read_writes_cons_cell, if_neg (by decide)]; rw [View.read_writes_cons_cell, if_neg (by decide)]; rw [View.read_writes_cons_cell, if_pos (by rfl)]
    refine Eq.trans (b := likStep i (arg1.view.read (Elt F) (harg1.unread x1)) (arg2.view.read (Elt F) (harg2.unread x2)) (arg5.view.read (Elt F) (harg5.unread x5)) (Scalar.ofBits .f32 0x00000000#32)) rfl ?_
    rw [harg1.read_unread, harg2.read_unread, harg5.read_unread, ha0]
  · rw [View.read_writes_cons_cell, if_neg (by decide)]; rw [View.read_writes_cons_cell, if_pos (by rfl)]
    refine Eq.trans (b := rankStep i (arg1.view.read (Elt F) (harg1.unread x1)) (arg2.view.read (Elt F) (harg2.unread x2)) (arg3.view.read (Elt F) (harg3.unread x3)) (arg4.view.read (Elt F) (harg4.unread x4)) (arg5.view.read (Elt F) (harg5.unread x5)) (Scalar.ofBits .f32 0x00000000#32)) rfl ?_
    rw [harg1.read_unread, harg2.read_unread, harg3.read_unread, harg4.read_unread, harg5.read_unread, ha1]
  · rw [View.read_writes_cons_cell, if_pos (by rfl)]
    refine Eq.trans (b := cntStep i (arg3.view.read (Elt F) (harg3.unread x3)) (arg4.view.read (Elt F) (harg4.unread x4)) (arg5.view.read (Elt F) (harg5.unread x5)) (Scalar.ofBits .f32 0x00000000#32)) rfl ?_
    rw [harg3.read_unread, harg4.read_unread, harg5.read_unread, ha2]

set_option maxHeartbeats 4000000 in
/-- A point between: the accumulators go one step on; the output buffer is left alone. -/
theorem runMid (c : Dev nD) (i : grid0.Coords) (arg1 : Memref sig .tc .vmem S8192x128 .f32) (harg1 : arg1.IsWhole)
    (arg2 : Memref sig .tc .vmem S128x8192 .f32) (harg2 : arg2.IsWhole) (arg3 : Memref sig .tc .vmem S1x8192 .f32) (harg3 : arg3.IsWhole)
    (arg4 : Memref sig .tc .vmem S8192x1 .f32) (harg4 : arg4.IsWhole) (arg5 : Memref sig .tc .vmem S1x8192 .f32) (harg5 : arg5.IsWhole)
    (arg6 : Memref sig .tc .vmem S1x128 .f32) (harg6 : arg6.IsWhole) (arg7 : Memref sig .tc .smem S4 .f32) (harg7 : arg7.IsWhole)
    (hc1 : ¬ isFirst i = 1#1) (hc2 : ¬ k0_cond2 i = 1#1)
    (x1 : Vec F S8192x128 .f32) (x2 : Vec F S128x8192 .f32) (x3 : Vec F S1x8192 .f32) (x4 : Vec F S8192x1 .f32) (x5 : Vec F S1x8192 .f32)
    (x6 : Vec F S1x128 .f32) (a : Vec F S4 .f32) (l r n : F .f32) (ha : Holds a l r n) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare a
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare (x6)
        ∗ (∃ a' : Vec F S4 .f32, ⌜Holds a' (likStep i x1 x2 x5 l) (rankStep i x1 x2 x3 x4 x5 r) (cntStep i x3 x4 x5 n)⌝
            ∗ owns (c : Thread nD τ) arg7 fullShare a')) -∗ K ⟨⟩))
      ⊢ wp frame (wpE (defs₀ (F := F)) Variants.none c none) E (cc0_deep_hit_loss i arg1 harg1 arg2 harg2 arg3 harg3 arg4 harg4 arg5 harg5 arg6 harg6 arg7 harg7) K := by
  simp only [cc0_deep_hit_loss_eq_skeleton]; unfold cc0_deep_hit_loss_skel
  simp only [k0_part6_eq_skeleton, k0_part5_eq_skeleton, k0_part4_eq_skeleton, k0_part3_eq_skeleton, k0_part2_eq_skeleton, k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | sl_exact hc1 | sl_exact hc2)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  iexists _; isplitr; swap
  · iexists _; isplitr; swap; · iexact H7
    ipureintro; rfl
  ipureintro
  obtain ⟨ha0, ha1, ha2⟩ := ha
  refine ⟨?_, ?_, ?_⟩
  · rw [View.read_writes_cons_cell, if_neg (by decide)]; rw [View.read_writes_cons_cell, if_neg (by decide)]; rw [View.read_writes_cons_cell, if_pos (by rfl)]
    refine Eq.trans (b := likStep i (arg1.view.read (Elt F) (harg1.unread x1)) (arg2.view.read (Elt F) (harg2.unread x2)) (arg5.view.read (Elt F) (harg5.unread x5)) (ldWord (arg7.view.read (Elt F) (harg7.unread a)) 0 inb_S4_S1_0)) rfl ?_
    rw [harg1.read_unread, harg2.read_unread, harg5.read_unread, ldWord_eq _ 0 _ (by decide), harg7.read_unread]; rw [show a (word ⟨0, by decide⟩) = _ from ha0]
  · rw [View.read_writes_cons_cell, if_neg (by decide)]; rw [View.read_writes_cons_cell, if_pos (by rfl)]
    refine Eq.trans (b := rankStep i (arg1.view.read (Elt F) (harg1.unread x1)) (arg2.view.read (Elt F) (harg2.unread x2)) (arg3.view.read (Elt F) (harg3.unread x3)) (arg4.view.read (Elt F) (harg4.unread x4)) (arg5.view.read (Elt F) (harg5.unread x5)) (ldWord (arg7.view.read (Elt F) (harg7.unread a)) 1 inb_S4_S1_1)) rfl ?_
    rw [harg1.read_unread, harg2.read_unread, harg3.read_unread, harg4.read_unread, harg5.read_unread, ldWord_eq _ 1 _ (by decide), harg7.read_unread]; rw [show a (word ⟨1, by decide⟩) = _ from ha1]
  · rw [View.read_writes_cons_cell, if_pos (by rfl)]
    refine Eq.trans (b := cntStep i (arg3.view.read (Elt F) (harg3.unread x3)) (arg4.view.read (Elt F) (harg4.unread x4)) (arg5.view.read (Elt F) (harg5.unread x5)) (ldWord (arg7.view.read (Elt F) (harg7.unread a)) 2 inb_S4_S1_2)) rfl ?_
    rw [harg3.read_unread, harg4.read_unread, harg5.read_unread, ldWord_eq _ 2 _ (by decide), harg7.read_unread]; rw [show a (word ⟨2, by decide⟩) = _ from ha2]

set_option maxHeartbeats 4000000 in
/-- The last point: the accumulators go one step on, and the output buffer is filled with the loss computed from them. -/
theorem runLast (c : Dev nD) (i : grid0.Coords) (arg1 : Memref sig .tc .vmem S8192x128 .f32) (harg1 : arg1.IsWhole)
    (arg2 : Memref sig .tc .vmem S128x8192 .f32) (harg2 : arg2.IsWhole) (arg3 : Memref sig .tc .vmem S1x8192 .f32) (harg3 : arg3.IsWhole)
    (arg4 : Memref sig .tc .vmem S8192x1 .f32) (harg4 : arg4.IsWhole) (arg5 : Memref sig .tc .vmem S1x8192 .f32) (harg5 : arg5.IsWhole)
    (arg6 : Memref sig .tc .vmem S1x128 .f32) (harg6 : arg6.IsWhole) (arg7 : Memref sig .tc .smem S4 .f32) (harg7 : arg7.IsWhole)
    (hc1 : ¬ isFirst i = 1#1) (hc2 :  k0_cond2 i = 1#1)
    (x1 : Vec F S8192x128 .f32) (x2 : Vec F S128x8192 .f32) (x3 : Vec F S1x8192 .f32) (x4 : Vec F S8192x1 .f32) (x5 : Vec F S1x8192 .f32)
    (x6 : Vec F S1x128 .f32) (a : Vec F S4 .f32) (l r n : F .f32) (ha : Holds a l r n) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare a
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare (k0_pay1 (likStep i x1 x2 x5 l) (rankStep i x1 x2 x3 x4 x5 r) (cntStep i x3 x4 x5 n))
        ∗ (∃ a' : Vec F S4 .f32, ⌜Holds a' (likStep i x1 x2 x5 l) (rankStep i x1 x2 x3 x4 x5 r) (cntStep i x3 x4 x5 n)⌝
            ∗ owns (c : Thread nD τ) arg7 fullShare a')) -∗ K ⟨⟩))
      ⊢ wp frame (wpE (defs₀ (F := F)) Variants.none c none) E (cc0_deep_hit_loss i arg1 harg1 arg2 harg2 arg3 harg3 arg4 harg4 arg5 harg5 arg6 harg6 arg7 harg7) K := by
  simp only [cc0_deep_hit_loss_eq_skeleton]; unfold cc0_deep_hit_loss_skel
  simp only [k0_part6_eq_skeleton, k0_part5_eq_skeleton, k0_part4_eq_skeleton, k0_part3_eq_skeleton, k0_part2_eq_skeleton, k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | sl_exact hc1 | sl_exact hc2)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro
    rw [View.read_writes_full]
    obtain ⟨ha0, ha1, ha2⟩ := ha
    refine Eq.trans (b := k0_pay1 (likStep i (arg1.view.read (Elt F) (harg1.unread x1)) (arg2.view.read (Elt F) (harg2.unread x2)) (arg5.view.read (Elt F) (harg5.unread x5)) (ldWord (arg7.view.read (Elt F) (harg7.unread a)) 0 inb_S4_S1_0))
      (rankStep i (arg1.view.read (Elt F) (harg1.unread x1)) (arg2.view.read (Elt F) (harg2.unread x2)) (arg3.view.read (Elt F) (harg3.unread x3)) (arg4.view.read (Elt F) (harg4.unread x4)) (arg5.view.read (Elt F) (harg5.unread x5)) (ldWord (arg7.view.read (Elt F) (harg7.unread a)) 1 inb_S4_S1_1))
      (cntStep i (arg3.view.read (Elt F) (harg3.unread x3)) (arg4.view.read (Elt F) (harg4.unread x4)) (arg5.view.read (Elt F) (harg5.unread x5)) (ldWord (arg7.view.read (Elt F) (harg7.unread a)) 2 inb_S4_S1_2))) rfl ?_
    rw [harg1.read_unread, harg2.read_unread, harg3.read_unread, harg4.read_unread, harg5.read_unread, ldWord_eq _ 0 _ (by decide), ldWord_eq _ 1 _ (by decide), ldWord_eq _ 2 _ (by decide), harg7.read_unread]
    rw [show a (word ⟨0, by decide⟩) = _ from ha0, show a (word ⟨1, by decide⟩) = _ from ha1, show a (word ⟨2, by decide⟩) = _ from ha2]
  iexists _; isplitr; swap
  · iexists _; isplitr; swap; · iexact H7
    ipureintro; rfl
  ipureintro
  obtain ⟨ha0, ha1, ha2⟩ := ha
  refine ⟨?_, ?_, ?_⟩
  · rw [View.read_writes_cons_cell, if_neg (by decide)]; rw [View.read_writes_cons_cell, if_neg (by decide)]; rw [View.read_writes_cons_cell, if_pos (by rfl)]
    refine Eq.trans (b := likStep i (arg1.view.read (Elt F) (harg1.unread x1)) (arg2.view.read (Elt F) (harg2.unread x2)) (arg5.view.read (Elt F) (harg5.unread x5)) (ldWord (arg7.view.read (Elt F) (harg7.unread a)) 0 inb_S4_S1_0)) rfl ?_
    rw [harg1.read_unread, harg2.read_unread, harg5.read_unread, ldWord_eq _ 0 _ (by decide), harg7.read_unread]; rw [show a (word ⟨0, by decide⟩) = _ from ha0]
  · rw [View.read_writes_cons_cell, if_neg (by decide)]; rw [View.read_writes_cons_cell, if_pos (by rfl)]
    refine Eq.trans (b := rankStep i (arg1.view.read (Elt F) (harg1.unread x1)) (arg2.view.read (Elt F) (harg2.unread x2)) (arg3.view.read (Elt F) (harg3.unread x3)) (arg4.view.read (Elt F) (harg4.unread x4)) (arg5.view.read (Elt F) (harg5.unread x5)) (ldWord (arg7.view.read (Elt F) (harg7.unread a)) 1 inb_S4_S1_1)) rfl ?_
    rw [harg1.read_unread, harg2.read_unread, harg3.read_unread, harg4.read_unread, harg5.read_unread, ldWord_eq _ 1 _ (by decide), harg7.read_unread]; rw [show a (word ⟨1, by decide⟩) = _ from ha1]
  · rw [View.read_writes_cons_cell, if_pos (by rfl)]
    refine Eq.trans (b := cntStep i (arg3.view.read (Elt F) (harg3.unread x3)) (arg4.view.read (Elt F) (harg4.unread x4)) (arg5.view.read (Elt F) (harg5.unread x5)) (ldWord (arg7.view.read (Elt F) (harg7.unread a)) 2 inb_S4_S1_2)) rfl ?_
    rw [harg3.read_unread, harg4.read_unread, harg5.read_unread, ldWord_eq _ 2 _ (by decide), harg7.read_unread]; rw [show a (word ⟨2, by decide⟩) = _ from ha2]

/-! ## The accumulators point by point, and the launch -/

variable (m : (ℓ : Loc nD τ sig) → Buf (Elt F) ℓ) (ρ : Dev nD → PrngReg)

/-- The three accumulators after the first `n` points: zero, then one step per point. -/
def accs (c : Dev nD) : ℕ → F .f32 × F .f32 × F .f32
  | 0 => (Scalar.ofBits .f32 0x00000000#32, Scalar.ofBits .f32 0x00000000#32, Scalar.ofBits .f32 0x00000000#32)
  | n + 1 =>
    if h : n < cfg0.N then
      (likStep (grid0.coords ⟨n, h⟩) (iblk m c 0 ⟨n, h⟩) (iblk m c 1 ⟨n, h⟩) (iblk m c 4 ⟨n, h⟩) (accs c n).1,
       rankStep (grid0.coords ⟨n, h⟩) (iblk m c 0 ⟨n, h⟩) (iblk m c 1 ⟨n, h⟩) (iblk m c 2 ⟨n, h⟩) (iblk m c 3 ⟨n, h⟩) (iblk m c 4 ⟨n, h⟩) (accs c n).2.1,
       cntStep (grid0.coords ⟨n, h⟩) (iblk m c 2 ⟨n, h⟩) (iblk m c 3 ⟨n, h⟩) (iblk m c 4 ⟨n, h⟩) (accs c n).2.2)
    else accs c n

/-- After point `t` the accumulators are one step on. -/
theorem accs_succ (c : Dev nD) (t : Fin cfg0.N) :
    accs m c (t.val + 1) =
      (likStep (grid0.coords t) (iblk m c 0 t) (iblk m c 1 t) (iblk m c 4 t) (accs m c t.val).1,
       rankStep (grid0.coords t) (iblk m c 0 t) (iblk m c 1 t) (iblk m c 2 t) (iblk m c 3 t) (iblk m c 4 t) (accs m c t.val).2.1,
       cntStep (grid0.coords t) (iblk m c 2 t) (iblk m c 3 t) (iblk m c 4 t) (accs m c t.val).2.2) := by
  rw [accs, dif_pos t.isLt]

/-- The output block as a point that has added its terms would fill it: the loss of the accumulators after point `n - 1`. -/
def outAt (c : Dev nD) (n : ℕ) : FVec F S1x128 .f32 := k0_pay1 (accs m c n).1 (accs m c n).2.1 (accs m c n).2.2

/-- The invariant before point `n`: the scratch holds the accumulators so far (anything before the first point), and the
    random-number register something. -/
def PhiS (c : Dev nD) (n : ℕ) (_ : n ≤ cfg0.N) : sProp 𝕄 :=
  iprop((∃ a : Vec F S4 .f32, ⌜n ≠ 0 → Holds a (accs m c n).1 (accs m c n).2.1 (accs m c n).2.2⌝
      ∗ owns (c : Thread nD τ) (Memref.whole cc0_scratch0) fullShare a)
    ∗ (∃ r, prngReg c r))

/-- The launch's proof data: the arrays as the region finds them, every input block left in place, the output block at the
    loss so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c (t.val + 1)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c (t.val + 1) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- The zeroing branch is taken at the first point only. -/
theorem isFirst_iff : ∀ t : Fin cfg0.N, isFirst (grid0.coords t) = 1#1 ↔ t.val = 0 := by
  exact (by decide +kernel : ∀ t : Fin grid0.N, isFirst (grid0.coords t) = 1#1 ↔ t.val = 0)
/-- The output is filled at the last point only. -/
theorem isLast_iff : ∀ t : Fin cfg0.N, k0_cond2 (grid0.coords t) = 1#1 ↔ t.val % 16 = 15 := by
  exact (by decide +kernel : ∀ t : Fin grid0.N, k0_cond2 (grid0.coords t) = 1#1 ↔ t.val % 16 = 15)

/-- What the body owes of the output block at point `t`. -/
def outPost (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem outPost_keep (c : Dev nD) (t : Fin cfg0.N) (h : ¬ k0_cond2 (grid0.coords t) = 1#1) :
    outPost m c t = iprop(∃ d, owns (c : Thread nD τ) (st0_5 t) fullShare ((dats m 0 c).before 5 t d)) := by
  have hi : cfg0.idle 5 (cfg0.grid.coords t) = true := by
    show (!(k0_cond2 (grid0.coords t) == 1#1)) = true
    simpa using h
  have hf : (cfg0.win 5).flush t = false := by
    rw [← Bool.not_eq_true, flush0_5]; exact fun e => h ((isLast_iff t).mpr e)
  unfold outPost; rw [hi, hf]

theorem outPost_fill (c : Dev nD) (t : Fin cfg0.N) (h : k0_cond2 (grid0.coords t) = 1#1) :
    outPost m c t = owns (c : Thread nD τ) (st0_5 t) fullShare ((dats m 0 c).after 5 t) := by
  have hi : cfg0.idle 5 (cfg0.grid.coords t) = false := by
    show (!(k0_cond2 (grid0.coords t) == 1#1)) = false
    simp [h]
  unfold outPost; rw [hi]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ outPost m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_castSucc, Phi_succ, after0, after1, after2, after3, after4]
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  unfold Dat.owesAt Pipeline.owesWithin
  rw [show (dats m 0 c).owed t.castSucc = 0 from rfl, show (dats m 0 c).owed t.succ = 0 from rfl]
  unfold PhiS
  iintro ⟨⟨⟨%a, %ha, HS⟩, Hg⟩, ⟨%W, -, HW⟩, ⟨%d0, H0⟩, ⟨%d1, H1⟩, ⟨%d2, H2⟩, ⟨%d3, H3⟩, ⟨%d4, H4⟩, ⟨%d5, H5⟩⟩
  by_cases hl : k0_cond2 (grid0.coords t) = 1#1
  · have hf : ¬ isFirst (grid0.coords t) = 1#1 := by
      rw [isFirst_iff]; have := (isLast_iff t).mp hl; omega
    have h0 : t.val ≠ 0 := fun e => hf ((isFirst_iff t).mpr e)
    rw [outPost_fill m c t hl, after5]
    iapply (runLast c (grid0.coords t) _ _ _ _ _ _ _ _ _ _ _ _ _ _ hf hl (iblk m c 0 t) (iblk m c 1 t) (iblk m c 2 t) (iblk m c 3 t)
      (iblk m c 4 t) _ a _ _ _ (ha h0) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%a', %ha', HS⟩⟩
    isplitl [HS Hg]
    · isplitl [HS]
      · iexists a'; isplitr; swap; · iexact HS
        ipureintro; intro _; rw [accs_succ]; exact ha'
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    unfold outAt; rw [accs_succ]; iexact H5
  · rw [outPost_keep m c t hl]
    by_cases hf : isFirst (grid0.coords t) = 1#1
    · have h0 : t.val = 0 := (isFirst_iff t).mp hf
      have hz : accs m c t.val = (Scalar.ofBits .f32 0x00000000#32, Scalar.ofBits .f32 0x00000000#32, Scalar.ofBits .f32 0x00000000#32) := by
        rw [h0]; rfl
      iapply (runFirst c (grid0.coords t) _ _ _ _ _ _ _ _ _ _ _ _ _ _ hf hl (iblk m c 0 t) (iblk m c 1 t) (iblk m c 2 t) (iblk m c 3 t)
        (iblk m c 4 t) _ a (accs m c t.val).1 (accs m c t.val).2.1 (accs m c t.val).2.2 (by rw [hz]; exact ⟨rfl, rfl, rfl⟩) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%a', %ha', HS⟩⟩
      isplitl [HS Hg]
      · isplitl [HS]
        · iexists a'; isplitr; swap; · iexact HS
          ipureintro; intro _; rw [accs_succ]; exact ha'
        iexact Hg
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexists d5; iexact H5
    · have h0 : t.val ≠ 0 := fun e => hf ((isFirst_iff t).mpr e)
      iapply (runMid c (grid0.coords t) _ _ _ _ _ _ _ _ _ _ _ _ _ _ hf hl (iblk m c 0 t) (iblk m c 1 t) (iblk m c 2 t) (iblk m c 3 t)
        (iblk m c 4 t) _ a _ _ _ (ha h0) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%a', %ha', HS⟩⟩
      isplitl [HS Hg]
      · isplitl [HS]
        · iexists a'; isplitr; swap; · iexact HS
          ipureintro; intro _; rw [accs_succ]; exact ha'
        iexact Hg
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexists d5; iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ ((dats (F := F) m 0 c).Φ 0 : sProp 𝕄) := by
  rw [show (dats (F := F) m 0 c).Φ 0 = PhiS m c 0 (Nat.zero_le _) from rfl]
  unfold Pipeline.ΦA PhiS
  rw [scopedRest0_eq]
  iintro ⟨⟨%f, HS⟩, Hg⟩
  isplitl [HS]
  · iexists f; isplitr; · ipureintro; exact fun h => absurd rfl h
    rw [owns_whole (c : Thread nD τ) cc0_scratch0 fullShare f]; iexact HS
  iexact Hg

theorem leave (c : Dev nD) : ((dats (F := F) m 0 c).Φ (Fin.last cfg0.N) : sProp 𝕄) ⊢ Pipeline.ΦA spec0 c := by
  rw [show (dats (F := F) m 0 c).Φ (Fin.last cfg0.N) = PhiS m c cfg0.N (Nat.le_refl _) from rfl]
  unfold Pipeline.ΦA PhiS
  rw [scopedRest0_eq]
  simp only [owns_whole (c : Thread nD τ) cc0_scratch0 fullShare]
  iintro ⟨⟨%a, -, HS⟩, Hg⟩
  isplitl [HS]
  · iexists a; iexact HS
  iexact Hg

set_option backward.isDefEq.respectTransparency.types false in
/-- The run of @main: every array at what the launch leaves in it, the host lines after it applied, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The frame: from any memory the program runs, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      (((h.1 c).2 main_arg1 (Pipeline.mem_restRefs_of main_arg1 (by decide) (by decide))).trans (W_main_arg1 m (dats m) c))⟩, h.2⟩) (run_main m ρ)

end Cert.KernelIdeal.Body

end
-- ==== Proof.Frames.lean ====
/- The three frames: the kernel, the kernel read at the extended reals, and the reference each run to the end, leave their
   arguments as they were and every semaphore at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BodyKernel
public import proofs.«01_k».proof.Proof.BodyIdeal

@[expose] public section

noncomputable section

namespace Cert.Proof

open Idealize.ShloMosaic Idealize.SL.Sem

/-- The kernel's frame. -/
theorem frame_kernel : Cert.quiescent_Kernel := fun m ρ _ => Cert.Kernel.Body.frame m ρ

/-- The frame of the kernel read at the extended reals. -/
theorem frame_kernelIdeal : Cert.quiescent_KernelIdeal := fun m ρ _ => Cert.KernelIdeal.Body.frame m ρ

/-- The reference's frame; it declares no semaphore. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

end Cert.Proof

end
-- ==== Proof.Block.lean ====
/- What one grid point adds to each accumulator, as a sum of extended reals over the point's 512 lanes: the operations of the
   body are read element by element, over arbitrary loaded vectors. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Block

open Cert.KernelIdeal Cert.KernelIdeal.Gen
open Idealize.ShloMosaic Idealize.ShloMosaic.TcCoe Idealize.SL.Sem

/-- One chunk of 1024 rows at lane `l`: the sum over the rows whose duration is longer of the positive part of the row's
    prediction less the lane's. -/
def chunk (v3 : FVec Ideal S1x512 .f32) (v9 : FVec Ideal S128x512 .f32) (v44 : FVec Ideal S1x512 .f32) (p : FVec Ideal S1024x128 .f32)
    (d : FVec Ideal S1024x1 .f32) (l : Fin 512) : EReal :=
  ∑ r : Fin 1024, max ((∑ k : Fin 128, p (ix2 r k) * v9 (ix2 k l)) - v44 (ix2 0 l)) 0 * (if v3 (ix2 0 l) < d (ix2 r 0) then 1 else 0)

/-- One chunk of 1024 rows at lane `l`: how many rows have a longer duration. -/
def longer (v3 : FVec Ideal S1x512 .f32) (d : FVec Ideal S1024x1 .f32) (l : Fin 512) : EReal :=
  ∑ r : Fin 1024, (if v3 (ix2 0 l) < d (ix2 r 0) then 1 else 0)

/-- The word of plus infinity is the top. -/
theorem ofBits_inf : Ideal.ofBits .f32 0x7F800000#32 = ⊤ := by simp [Ideal.ofBits, Ideal.ieee]

/-- The lane's own prediction: the diagonal of the product of the rows with the one-hot columns. -/
theorem own_at (oh : FVec Ideal S128x512 .f32) (p : FVec Ideal S512x128 .f32) (l : Fin 512) :
    k0_pay5 (F := Ideal) oh p (ix2 0 l) = ∑ k : Fin 128, p (ix2 l k) * oh (ix2 k l) := by
  pointwise [k0_pay5, k0_pay4]
  rw [Finset.sum_eq_single l]
  · rw [WordCmp.cmpi_eq_eq, decide_eq_true rfl]; rfl
  · intro b _ hb
    rw [WordCmp.cmpi_eq_eq, decide_eq_false]; · rfl
    intro h
    have h2 := congrArg BitVec.toNat h
    rw [BitVec.toNat_ofNat, BitVec.toNat_ofNat, Nat.mod_eq_of_lt (by have := b.isLt; omega), Nat.mod_eq_of_lt (by have := l.isLt; omega)] at h2
    exact hb (Fin.ext h2)
  · exact fun h => absurd (Finset.mem_univ _) h

/-- The prediction a lane is compared with. -/
theorem bound_at (e g : FVec Ideal S1x512 .f32) (l : Fin 512) :
    k0_pay8 (F := Ideal) (k0_pay3 e) g (Scalar.ofBits .f32 0x3F800000#32) (ix2 0 l) = if e (ix2 0 l) = 1 then g (ix2 0 l) else ⊤ := by
  pointwise [k0_pay8, k0_pay3]
  rw [← ofBits_inf]

/-- The likelihood terms of a point. -/
theorem lik_eq (e : FVec Ideal S1x512 .f32) (oh : FVec Ideal S128x512 .f32) (p : FVec Ideal S512x128 .f32) :
    k0_pay7 (F := Ideal) e oh p
      = ∑ l : Fin 512, -(Ideal.log (k0_pay5 (F := Ideal) oh p (ix2 0 l) + Ideal.ofBits .f32 0x322BCC77#32)) * (if e (ix2 0 l) = 1 then 1 else 0) := by
  pointwise [k0_pay7, k0_pay6, k0_pay3]
  rw [Fin.sum_univ_one]
  refine Finset.sum_congr rfl fun l _ => ?_
  rw [zero_sub, ite_self, mul_one]

/-- The first chunk. -/
theorem chunk0_at (v3 e g : FVec Ideal S1x512 .f32) (v9 : FVec Ideal S128x512 .f32) (c : EReal) (p : FVec Ideal S1024x128 .f32)
    (d : FVec Ideal S1024x1 .f32) (l : Fin 512) :
    k0_pay10 (F := Ideal) v3 e v9 g c p d (ix2 0 l) = chunk v3 v9 (k0_pay8 e g c) p d l := by
  pointwise [k0_pay10, k0_pay9, chunk]

/-- The second and third chunks. -/
theorem chunk12_at (v3 v44 e g acc : FVec Ideal S1x512 .f32) (v9 : FVec Ideal S128x512 .f32) (c : EReal)
    (p p' : FVec Ideal S1024x128 .f32) (d d' : FVec Ideal S1024x1 .f32) (l : Fin 512) :
    k0_pay15 (F := Ideal) v3 v9 v44 acc (k0_pay12 v3 d) (k0_pay13 e v9 g c p) (Scalar.ofBits .f32 0x00000000#32) p' d' (ix2 0 l)
      = acc (ix2 0 l) + chunk v3 v9 (k0_pay8 e g c) p d l + chunk v3 v9 v44 p' d' l := by
  pointwise [k0_pay15, k0_pay12, k0_pay13, k0_pay14, chunk]

/-- The fourth and fifth chunks. -/
theorem chunk34_at (v3 v44 acc : FVec Ideal S1x512 .f32) (v9 : FVec Ideal S128x512 .f32)
    (p p' : FVec Ideal S1024x128 .f32) (d d' : FVec Ideal S1024x1 .f32) (l : Fin 512) :
    k0_pay21 (F := Ideal) v3 v9 v44 acc (k0_pay17 v9 p) (k0_pay18 v3 d) (k0_pay19 v44) p' d' (ix2 0 l)
      = acc (ix2 0 l) + chunk v3 v9 v44 p d l + chunk v3 v9 v44 p' d' l := by
  pointwise [k0_pay21, k0_pay17, k0_pay18, k0_pay19, k0_pay20, chunk]

/-- The sixth and seventh chunks. -/
theorem chunk56_at (v3 v44 acc : FVec Ideal S1x512 .f32) (v9 : FVec Ideal S128x512 .f32)
    (p p' : FVec Ideal S1024x128 .f32) (d d' : FVec Ideal S1024x1 .f32) (l : Fin 512) :
    k0_pay29 (F := Ideal) v3 v9 v44 acc (k0_pay23 v9 p) (k0_pay24 v3 d) k0_pay25 k0_pay26 p' d' (ix2 0 l)
      = acc (ix2 0 l) + chunk v3 v9 v44 p d l + chunk v3 v9 v44 p' d' l := by
  pointwise [k0_pay29, k0_pay23, k0_pay24, k0_pay25, k0_pay26, k0_pay27, k0_pay28, chunk]

/-- The eighth chunk, and the sum over the lanes. -/
theorem chunk7_eq (v3 v44 acc : FVec Ideal S1x512 .f32) (v9 : FVec Ideal S128x512 .f32)
    (p : FVec Ideal S1024x128 .f32) (d : FVec Ideal S1024x1 .f32) (s : EReal) :
    k0_pay35 (F := Ideal) v44 acc (k0_pay31 v9 p) (k0_pay32 v3 d) (Scalar.ofBits .f32 0x3F800000#32) (Scalar.ofBits .f32 0x00000000#32) s
      = s + ∑ l : Fin 512, (acc (ix2 0 l) + chunk v3 v9 v44 p d l) := by
  pointwise [k0_pay35, k0_pay33, k0_pay31, k0_pay32, chunk]
  rw [Fin.sum_univ_one]

/-- The counts of the first chunk. -/
theorem longer0_at (v3 : FVec Ideal S1x512 .f32) (d : FVec Ideal S1024x1 .f32) (l : Fin 512) :
    k0_pay11 (F := Ideal) v3 d (ix2 0 l) = longer v3 d l := by
  pointwise [k0_pay11, k0_pay9, longer]

/-- The counts of the second and third chunks. -/
theorem longer12_at (v3 acc : FVec Ideal S1x512 .f32) (d d' : FVec Ideal S1024x1 .f32) (l : Fin 512) :
    k0_pay16 (F := Ideal) v3 acc (k0_pay12 v3 d) d' (ix2 0 l) = acc (ix2 0 l) + longer v3 d l + longer v3 d' l := by
  pointwise [k0_pay16, k0_pay12, k0_pay14, longer]

/-- The counts of the fourth and fifth chunks. -/
theorem longer34_at (v3 acc : FVec Ideal S1x512 .f32) (d d' : FVec Ideal S1024x1 .f32) (l : Fin 512) :
    k0_pay22 (F := Ideal) v3 acc (k0_pay18 v3 d) d' (ix2 0 l) = acc (ix2 0 l) + longer v3 d l + longer v3 d' l := by
  pointwise [k0_pay22, k0_pay18, k0_pay20, longer]

/-- The counts of the sixth and seventh chunks. -/
theorem longer56_at (v3 acc : FVec Ideal S1x512 .f32) (d d' : FVec Ideal S1024x1 .f32) (l : Fin 512) :
    k0_pay30 (F := Ideal) v3 acc (k0_pay24 v3 d) k0_pay25 k0_pay26 d' (ix2 0 l) = acc (ix2 0 l) + longer v3 d l + longer v3 d' l := by
  pointwise [k0_pay30, k0_pay24, k0_pay25, k0_pay26, k0_pay27, k0_pay28, longer]

/-- The counts of the eighth chunk, and the sum over the lanes whose event occurred. -/
theorem longer7_eq (e n : FVec Ideal S1x512 .f32) (v3 : FVec Ideal S1x512 .f32) (d : FVec Ideal S1024x1 .f32) (s : EReal) :
    k0_pay36 (F := Ideal) (k0_pay6 e) n (k0_pay32 v3 d) (Scalar.ofBits .f32 0x3F800000#32) (Scalar.ofBits .f32 0x00000000#32) s
      = s + ∑ l : Fin 512, (n (ix2 0 l) + longer v3 d l) * (if e (ix2 0 l) = 1 then 1 else 0) := by
  pointwise [k0_pay36, k0_pay33, k0_pay32, k0_pay6, k0_pay3, longer]
  rw [Fin.sum_univ_one]

/-- What the last point writes: half the mean of the likelihood terms and half the mean ranking term, in every lane. -/
theorem out_at (L R C : EReal) (l : Fin 128) :
    k0_pay1 (F := Ideal) L R C (ix2 0 l)
      = Ideal.ofBits .f32 0x3F000000#32 * Ideal.div L (Ideal.ofBits .f32 0x46000000#32)
        + Ideal.ofBits .f32 0x3F000000#32 * (if 0 < C then Ideal.div R (max C 1) else 0) := by
  pointwise [k0_pay1]

end Cert.KernelIdeal.Block

end
-- ==== Proof.Point.lean ====
/- What one grid point adds to each accumulator, in the whole arrays' own coordinates: point `i` owns lanes `512 i` to `512 i + 511`, and the eight
   chunks together run over all 8192 rows. -/
module

public import proofs.«01_k».proof.Proof.BodyIdeal
public import proofs.«01_k».proof.Proof.Block

@[expose] public section

set_option maxRecDepth 16384

noncomputable section

namespace Cert.KernelIdeal.Point

open Cert.KernelIdeal Cert.KernelIdeal.Gen Cert.KernelIdeal.Body Cert.KernelIdeal.Block
open Idealize.ShloMosaic Idealize.ShloMosaic.TcCoe Idealize.SL.Sem

/-- Lane `l` of point `i` among the 8192. -/
def lane (i : grid0.Coords) (l : Fin 512) : Fin 8192 := ⟨(i 0).val * 512 + l.val, by have h := (i 0).isLt; have := l.isLt; change (i 0).val < 16 at h; omega⟩

/-- The offsets of the durations' and events' reads. -/
theorem off1 (i : grid0.Coords) : k0_off1 i = ![0, (i 0).val * 512] := by
  revert i; decide +kernel
/-- The offsets of the one-hot read. -/
theorem off2 (i : grid0.Coords) : k0_off2 i = ![0, (i 0).val * 512] := by
  revert i; decide +kernel
/-- The offsets of the predictions' read. -/
theorem off3 (i : grid0.Coords) : k0_off3 i = ![(i 0).val * 512, 0] := by
  revert i; decide +kernel

/-- The durations of point `i`'s lanes. -/
theorem durB_at (i : grid0.Coords) (x3 : FVec Ideal S1x8192 .f32) (l : Fin 512) : durB (F := Ideal) i x3 (ix2 0 l) = x3 (ix2 0 (lane i l)) := by
  pointwise [durB, k0_pay2]
  exact congrArg x3 ((ix2_inj ..).2 ⟨Fin.ext (by simp [off1]), Fin.ext (by simp [off1, lane])⟩)

/-- The event indicators of point `i`'s lanes. -/
theorem evB_at (i : grid0.Coords) (x5 : FVec Ideal S1x8192 .f32) (l : Fin 512) : evB (F := Ideal) i x5 (ix2 0 l) = x5 (ix2 0 (lane i l)) := by
  pointwise [evB]
  exact congrArg x5 ((ix2_inj ..).2 ⟨Fin.ext (by simp [off1]), Fin.ext (by simp [off1, lane])⟩)

/-- The one-hot columns of point `i`'s lanes. -/
theorem ohB_at (i : grid0.Coords) (x2 : FVec Ideal S128x8192 .f32) (k : Fin 128) (l : Fin 512) :
    ohB (F := Ideal) i x2 (ix2 k l) = x2 (ix2 k (lane i l)) := by
  pointwise [ohB]
  exact congrArg x2 ((ix2_inj ..).2 ⟨Fin.ext (by simp [off2]), Fin.ext (by simp [off2, lane])⟩)

/-- The rows of predictions of point `i`'s lanes. -/
theorem prB_at (i : grid0.Coords) (x1 : FVec Ideal S8192x128 .f32) (l : Fin 512) (k : Fin 128) :
    prB (F := Ideal) i x1 (ix2 l k) = x1 (ix2 (lane i l) k) := by
  pointwise [prB]
  exact congrArg x1 ((ix2_inj ..).2 ⟨Fin.ext (by simp [off3, lane]), Fin.ext (by simp [off3])⟩)

/-- The product of row `j` of the predictions with column `i` of the one-hot array. -/
def prod (x1 : FVec Ideal S8192x128 .f32) (x2 : FVec Ideal S128x8192 .f32) (j i : Fin 8192) : EReal := ∑ k : Fin 128, x1 (ix2 j k) * x2 (ix2 k i)

/-- What example `i` is compared with: its own prediction where its event occurred, infinity elsewhere. -/
def bound (x1 : FVec Ideal S8192x128 .f32) (x2 : FVec Ideal S128x8192 .f32) (x5 : FVec Ideal S1x8192 .f32) (i : Fin 8192) : EReal :=
  if x5 (ix2 0 i) = 1 then prod x1 x2 i i else ⊤

/-- The likelihood term of example `i`. -/
def likTerm (x1 : FVec Ideal S8192x128 .f32) (x2 : FVec Ideal S128x8192 .f32) (x5 : FVec Ideal S1x8192 .f32) (i : Fin 8192) : EReal :=
  -(Ideal.log (prod x1 x2 i i + Ideal.ofBits .f32 0x322BCC77#32)) * (if x5 (ix2 0 i) = 1 then 1 else 0)

/-- One when example `j` lasted longer than example `i`, zero otherwise. -/
def later (x3 : FVec Ideal S1x8192 .f32) (x4 : FVec Ideal S8192x1 .f32) (i j : Fin 8192) : EReal := if x3 (ix2 0 i) < x4 (ix2 j 0) then 1 else 0

/-- The ranking term of the pair of examples `i` and `j`. -/
def pair (x1 : FVec Ideal S8192x128 .f32) (x2 : FVec Ideal S128x8192 .f32) (x3 : FVec Ideal S1x8192 .f32) (x4 : FVec Ideal S8192x1 .f32)
    (x5 : FVec Ideal S1x8192 .f32) (i j : Fin 8192) : EReal :=
  max (prod x1 x2 j i - bound x1 x2 x5 i) 0 * later x3 x4 i j

/-- Row `r` of chunk `n` among the 8192. -/
abbrev row (n : ℕ) (hn : n < 8) (r : Fin 1024) : Fin 8192 := ⟨n * 1024 + r.val, by have := r.isLt; omega⟩

/-- A lane's own prediction. -/
theorem gB_at (i : grid0.Coords) (x1 : FVec Ideal S8192x128 .f32) (x2 : FVec Ideal S128x8192 .f32) (l : Fin 512) :
    gB (F := Ideal) i x1 x2 (ix2 0 l) = prod x1 x2 (lane i l) (lane i l) := by
  unfold gB prod
  rw [own_at]
  exact Finset.sum_congr rfl fun k _ => by rw [prB_at, ohB_at]

/-- What a lane is compared with. -/
theorem geB_at (i : grid0.Coords) (x1 : FVec Ideal S8192x128 .f32) (x2 : FVec Ideal S128x8192 .f32) (x5 : FVec Ideal S1x8192 .f32) (l : Fin 512) :
    geB (F := Ideal) i x1 x2 x5 (ix2 0 l) = bound x1 x2 x5 (lane i l) := by
  unfold geB bound
  rw [bound_at, evB_at, gB_at]

/-- The one-hot columns pass through a cast to their own shape. -/
theorem oh4 (oh : FVec Ideal S128x512 .f32) (k : Fin 128) (l : Fin 512) : k0_pay4 (F := Ideal) oh (ix2 k l) = oh (ix2 k l) := by
  pointwise [k0_pay4]

/-- One point adds its lanes' likelihood terms to the first accumulator. -/
theorem likStep_eq (i : grid0.Coords) (x1 : FVec Ideal S8192x128 .f32) (x2 : FVec Ideal S128x8192 .f32) (x5 : FVec Ideal S1x8192 .f32) (s : EReal) :
    likStep (F := Ideal) i x1 x2 x5 s = s + ∑ l : Fin 512, likTerm x1 x2 x5 (lane i l) := by
  unfold likStep k0_pay34
  rw [lik_eq]
  refine congrArg (s + ·) (Finset.sum_congr rfl fun l _ => ?_)
  unfold likTerm
  rw [evB_at]
  exact congrArg (fun z : EReal => -(Ideal.log (z + _)) * _) (gB_at i x1 x2 l)

/-- A chunk whose rows are rows `n * 1024 + r` of the arrays. -/
theorem chunk_eq (i : grid0.Coords) (x1 : FVec Ideal S8192x128 .f32) (x2 : FVec Ideal S128x8192 .f32) (x3 : FVec Ideal S1x8192 .f32)
    (x4 : FVec Ideal S8192x1 .f32) (x5 : FVec Ideal S1x8192 .f32) (p : FVec Ideal S1024x128 .f32) (d : FVec Ideal S1024x1 .f32) (n : ℕ) (hn : n < 8)
    (hp : ∀ r k, p (ix2 r k) = x1 (ix2 (row n hn r) k)) (hd : ∀ r, d (ix2 r 0) = x4 (ix2 (row n hn r) 0)) (l : Fin 512) :
    chunk (durB (F := Ideal) i x3) (k0_pay4 (F := Ideal) (ohB (F := Ideal) i x2)) (geB (F := Ideal) i x1 x2 x5) p d l
      = ∑ r : Fin 1024, pair x1 x2 x3 x4 x5 (lane i l) (row n hn r) := by
  unfold chunk pair later prod
  refine Finset.sum_congr rfl fun r _ => ?_
  rw [geB_at, durB_at, hd]
  simp only [hp, oh4, ohB_at]

/-- The counts of a chunk whose rows are rows `n * 1024 + r` of the durations. -/
theorem longer_eq (i : grid0.Coords) (x3 : FVec Ideal S1x8192 .f32) (x4 : FVec Ideal S8192x1 .f32) (d : FVec Ideal S1024x1 .f32) (n : ℕ) (hn : n < 8)
    (hd : ∀ r, d (ix2 r 0) = x4 (ix2 (row n hn r) 0)) (l : Fin 512) :
    longer (durB (F := Ideal) i x3) d l = ∑ r : Fin 1024, later x3 x4 (lane i l) (row n hn r) := by
  unfold longer later
  exact Finset.sum_congr rfl fun r _ => by rw [durB_at, hd]

/-- Chunk 0 of the predictions. -/
theorem pC0_at (x1 : FVec Ideal S8192x128 .f32) (r : Fin 1024) (k : Fin 128) :
    pC0 (F := Ideal) x1 (ix2 r k) = x1 (ix2 (row 0 (by decide) r) k) := by
  pointwise [pC0]
  exact congrArg x1 ((ix2_inj ..).2 ⟨Fin.ext (by simp), rfl⟩)
/-- Chunk 0 of the durations. -/
theorem dC0_at (x4 : FVec Ideal S8192x1 .f32) (r : Fin 1024) :
    dC0 (F := Ideal) x4 (ix2 r 0) = x4 (ix2 (row 0 (by decide) r) 0) := by
  pointwise [dC0]
  exact congrArg x4 ((ix2_inj ..).2 ⟨Fin.ext (by simp), rfl⟩)
/-- Chunk 1 of the predictions. -/
theorem pC1_at (x1 : FVec Ideal S8192x128 .f32) (r : Fin 1024) (k : Fin 128) :
    pC1 (F := Ideal) x1 (ix2 r k) = x1 (ix2 (row 1 (by decide) r) k) := by
  pointwise [pC1]
/-- Chunk 1 of the durations. -/
theorem dC1_at (x4 : FVec Ideal S8192x1 .f32) (r : Fin 1024) :
    dC1 (F := Ideal) x4 (ix2 r 0) = x4 (ix2 (row 1 (by decide) r) 0) := by
  pointwise [dC1]
/-- Chunk 2 of the predictions. -/
theorem pC2_at (x1 : FVec Ideal S8192x128 .f32) (r : Fin 1024) (k : Fin 128) :
    pC2 (F := Ideal) x1 (ix2 r k) = x1 (ix2 (row 2 (by decide) r) k) := by
  pointwise [pC2]
/-- Chunk 2 of the durations. -/
theorem dC2_at (x4 : FVec Ideal S8192x1 .f32) (r : Fin 1024) :
    dC2 (F := Ideal) x4 (ix2 r 0) = x4 (ix2 (row 2 (by decide) r) 0) := by
  pointwise [dC2]
/-- Chunk 3 of the predictions. -/
theorem pC3_at (x1 : FVec Ideal S8192x128 .f32) (r : Fin 1024) (k : Fin 128) :
    pC3 (F := Ideal) x1 (ix2 r k) = x1 (ix2 (row 3 (by decide) r) k) := by
  pointwise [pC3]
/-- Chunk 3 of the durations. -/
theorem dC3_at (x4 : FVec Ideal S8192x1 .f32) (r : Fin 1024) :
    dC3 (F := Ideal) x4 (ix2 r 0) = x4 (ix2 (row 3 (by decide) r) 0) := by
  pointwise [dC3]
/-- Chunk 4 of the predictions. -/
theorem pC4_at (x1 : FVec Ideal S8192x128 .f32) (r : Fin 1024) (k : Fin 128) :
    pC4 (F := Ideal) x1 (ix2 r k) = x1 (ix2 (row 4 (by decide) r) k) := by
  pointwise [pC4]
/-- Chunk 4 of the durations. -/
theorem dC4_at (x4 : FVec Ideal S8192x1 .f32) (r : Fin 1024) :
    dC4 (F := Ideal) x4 (ix2 r 0) = x4 (ix2 (row 4 (by decide) r) 0) := by
  pointwise [dC4]
/-- Chunk 5 of the predictions. -/
theorem pC5_at (x1 : FVec Ideal S8192x128 .f32) (r : Fin 1024) (k : Fin 128) :
    pC5 (F := Ideal) x1 (ix2 r k) = x1 (ix2 (row 5 (by decide) r) k) := by
  pointwise [pC5]
/-- Chunk 5 of the durations. -/
theorem dC5_at (x4 : FVec Ideal S8192x1 .f32) (r : Fin 1024) :
    dC5 (F := Ideal) x4 (ix2 r 0) = x4 (ix2 (row 5 (by decide) r) 0) := by
  pointwise [dC5]
/-- Chunk 6 of the predictions. -/
theorem pC6_at (x1 : FVec Ideal S8192x128 .f32) (r : Fin 1024) (k : Fin 128) :
    pC6 (F := Ideal) x1 (ix2 r k) = x1 (ix2 (row 6 (by decide) r) k) := by
  pointwise [pC6]
/-- Chunk 6 of the durations. -/
theorem dC6_at (x4 : FVec Ideal S8192x1 .f32) (r : Fin 1024) :
    dC6 (F := Ideal) x4 (ix2 r 0) = x4 (ix2 (row 6 (by decide) r) 0) := by
  pointwise [dC6]
/-- Chunk 7 of the predictions. -/
theorem pC7_at (x1 : FVec Ideal S8192x128 .f32) (r : Fin 1024) (k : Fin 128) :
    pC7 (F := Ideal) x1 (ix2 r k) = x1 (ix2 (row 7 (by decide) r) k) := by
  pointwise [pC7]
/-- Chunk 7 of the durations. -/
theorem dC7_at (x4 : FVec Ideal S8192x1 .f32) (r : Fin 1024) :
    dC7 (F := Ideal) x4 (ix2 r 0) = x4 (ix2 (row 7 (by decide) r) 0) := by
  pointwise [dC7]

/-- A sum over the 8192 rows, chunk by chunk, in the order the body adds the chunks. -/
theorem sum_rows (f : Fin 8192 → EReal) :
    ∑ j, f j = ∑ r, f (row 0 (by decide) r) + ∑ r, f (row 1 (by decide) r) + ∑ r, f (row 2 (by decide) r) + ∑ r, f (row 3 (by decide) r)
      + ∑ r, f (row 4 (by decide) r) + ∑ r, f (row 5 (by decide) r) + ∑ r, f (row 6 (by decide) r) + ∑ r, f (row 7 (by decide) r) := by
  rw [Fin.sum_univ_tiles 8 1024 rfl f, Fin.sum_univ_eight]
  rfl

/-- One point adds its lanes' ranking terms, over all 8192 rows, to the second accumulator. -/
theorem rankStep_eq (i : grid0.Coords) (x1 : FVec Ideal S8192x128 .f32) (x2 : FVec Ideal S128x8192 .f32) (x3 : FVec Ideal S1x8192 .f32)
    (x4 : FVec Ideal S8192x1 .f32) (x5 : FVec Ideal S1x8192 .f32) (s : EReal) :
    rankStep (F := Ideal) i x1 x2 x3 x4 x5 s = s + ∑ l : Fin 512, ∑ j, pair x1 x2 x3 x4 x5 (lane i l) j := by
  unfold rankStep
  rw [chunk7_eq]
  refine congrArg (s + ·) (Finset.sum_congr rfl fun l _ => ?_)
  rw [chunk56_at, chunk34_at, chunk12_at, chunk0_at, sum_rows]
  have hg : k0_pay8 (F := Ideal) (k0_pay3 (evB (F := Ideal) i x5)) (gB (F := Ideal) i x1 x2) (Scalar.ofBits .f32 0x3F800000#32) = geB (F := Ideal) i x1 x2 x5 := rfl
  rw [hg, chunk_eq i x1 x2 x3 x4 x5 _ _ 0 (by decide) (pC0_at x1) (dC0_at x4), chunk_eq i x1 x2 x3 x4 x5 _ _ 1 (by decide) (pC1_at x1) (dC1_at x4),
    chunk_eq i x1 x2 x3 x4 x5 _ _ 2 (by decide) (pC2_at x1) (dC2_at x4), chunk_eq i x1 x2 x3 x4 x5 _ _ 3 (by decide) (pC3_at x1) (dC3_at x4),
    chunk_eq i x1 x2 x3 x4 x5 _ _ 4 (by decide) (pC4_at x1) (dC4_at x4), chunk_eq i x1 x2 x3 x4 x5 _ _ 5 (by decide) (pC5_at x1) (dC5_at x4),
    chunk_eq i x1 x2 x3 x4 x5 _ _ 6 (by decide) (pC6_at x1) (dC6_at x4), chunk_eq i x1 x2 x3 x4 x5 _ _ 7 (by decide) (pC7_at x1) (dC7_at x4)]

/-- One point adds, for its lanes whose event occurred, the numbers of later rows to the third accumulator. -/
theorem cntStep_eq (i : grid0.Coords) (x3 : FVec Ideal S1x8192 .f32) (x4 : FVec Ideal S8192x1 .f32) (x5 : FVec Ideal S1x8192 .f32) (s : EReal) :
    cntStep (F := Ideal) i x3 x4 x5 s
      = s + ∑ l : Fin 512, (∑ j, later x3 x4 (lane i l) j) * (if x5 (ix2 0 (lane i l)) = 1 then 1 else 0) := by
  unfold cntStep
  rw [longer7_eq]
  refine congrArg (s + ·) (Finset.sum_congr rfl fun l _ => ?_)
  rw [longer56_at, longer34_at, longer12_at, longer0_at, sum_rows, evB_at,
    longer_eq i x3 x4 _ 0 (by decide) (dC0_at x4), longer_eq i x3 x4 _ 1 (by decide) (dC1_at x4),
    longer_eq i x3 x4 _ 2 (by decide) (dC2_at x4), longer_eq i x3 x4 _ 3 (by decide) (dC3_at x4),
    longer_eq i x3 x4 _ 4 (by decide) (dC4_at x4), longer_eq i x3 x4 _ 5 (by decide) (dC5_at x4),
    longer_eq i x3 x4 _ 6 (by decide) (dC6_at x4), longer_eq i x3 x4 _ 7 (by decide) (dC7_at x4)]

end Cert.KernelIdeal.Point

end
-- ==== Proof.Entry.lean ====
/- What the kernel's launch is given: the predictions themselves, the durations as a row and as a column, the events as a row, and the one-hot
   array of the examples' bins. Every block a grid point reads is a whole array. -/
module

public import proofs.«01_k».proof.Proof.Gen.KernelIdeal.Frame
public import Idealize.ShloMosaic.Lib.Pointwise
public import Idealize.ShloMosaic.Lib.Claim
public import Idealize.ShloMosaic.Lib.Pipeline.ValueKit
public import Idealize.ShloMosaic.Lib.WordCmp

@[expose] public section

set_option maxRecDepth 16384

noncomputable section

namespace Cert.KernelIdeal.Entry

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The windows' index maps: every window stays at its only block. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The predictions. -/
abbrev preds : FVec Ideal S8192x128 .f32 := m ((c : Thread nD τ).loc main_arg0)
/-- The targets: a duration and an event indicator for each example. -/
abbrev targets : FVec Ideal S8192x2 .f32 := m ((c : Thread nD τ).loc main_arg1)

/-- The durations. -/
abbrev dur (T : FVec Ideal S8192x2 .f32) : FVec Ideal S8192 .f32 := shapeCast _ (extractStridedSlice S8192x1 ![0, 0] T slices_S8192x2_S8192x1_0_0) shapeCasts_S8192x1_S8192
/-- The bins, as 32-bit words: each duration over the longest, times 127, cut to an integer. -/
abbrev bins (T : FVec Ideal S8192x2 .f32) : IVec S8192 32 :=
  fptosi 32 (mulf (Host.divf (dur T) (broadcastInDim S8192 ![] bcast_S_S8192 (Host.reduce FloatOps.maximumf (dur T) (constant S_ .f32 0xFF800000#32) reducesTo_S8192_S_d0 h_S_)))
    (broadcastInDim S8192 ![] bcast_S_S8192 (constant S_ .f32 0x42FE0000#32)))

/-- Every block of window 0 is the predictions. -/
theorem iblk0 (t : Fin cfg0.N) : iblk m c 0 t = preds m c := by blk_ext! [iblk, V, idx t]
/-- Every block of window 1 is the one-hot array. -/
theorem iblk1 (t : Fin cfg0.N) : iblk m c 1 t = V m c main_v16 := by blk_ext! [iblk, idx t]
/-- Every block of window 2 is the row of durations. -/
theorem iblk2 (t : Fin cfg0.N) : iblk m c 2 t = V m c main_v17 := by blk_ext! [iblk, idx t]
/-- Every block of window 3 is the column of durations. -/
theorem iblk3 (t : Fin cfg0.N) : iblk m c 3 t = V m c main_v18 := by blk_ext! [iblk, idx t]
/-- Every block of window 4 is the row of events. -/
theorem iblk4 (t : Fin cfg0.N) : iblk m c 4 t = V m c main_v19 := by blk_ext! [iblk, idx t]

/-- The region's entry is the arguments after the first line of host operations. -/
theorem V0_flat : V0 m c = StableHlo.after (hostOps0 (F := Ideal)) (fun b => m (c, b)) := by
  show StableHlo.after (hostOps0 ++ []) _ = _
  rw [List.append_nil]

/-- The one-bit word 1 converts to one. -/
theorem one_word : (FloatOps.uitofp (F := Ideal) .f32 (BitVec.ofBool true) : EReal) = 1 := by
  show (((BitVec.ofBool true).toNat : ℝ) : EReal) = 1
  simp
/-- The one-bit word 0 converts to zero. -/
theorem zero_word : (FloatOps.uitofp (F := Ideal) .f32 (BitVec.ofBool false) : EReal) = 0 := by
  show (((BitVec.ofBool false).toNat : ℝ) : EReal) = 0
  simp

/-- The row of durations holds each example's duration. -/
theorem V17 (i : Fin 8192) : (show FVec Ideal S1x8192 .f32 from V m c main_v17) (ix2 0 i) = targets m c (ix2 i 0) := by
  rw [show V m c = fun b => V0 m c (Proc.devRef .tc b) from rfl, V0_flat]
  show StableHlo.after (hostOps0 (F := Ideal)) (fun b => m (c, b)) _ _ = _
  entry_read
  pointwise
/-- The column of durations holds each example's duration. -/
theorem V18 (i : Fin 8192) : (show FVec Ideal S8192x1 .f32 from V m c main_v18) (ix2 i 0) = targets m c (ix2 i 0) := by
  rw [show V m c = fun b => V0 m c (Proc.devRef .tc b) from rfl, V0_flat]
  show StableHlo.after (hostOps0 (F := Ideal)) (fun b => m (c, b)) _ _ = _
  entry_read
  pointwise
/-- The row of events holds each example's event. -/
theorem V19 (i : Fin 8192) : (show FVec Ideal S1x8192 .f32 from V m c main_v19) (ix2 0 i) = targets m c (ix2 i 1) := by
  rw [show V m c = fun b => V0 m c (Proc.devRef .tc b) from rfl, V0_flat]
  show StableHlo.after (hostOps0 (F := Ideal)) (fun b => m (c, b)) _ _ = _
  entry_read
  pointwise
/-- The one-hot array holds one where the row is the example's bin, zero elsewhere. -/
theorem V16 (k : Fin 128) (i : Fin 8192) :
    (show FVec Ideal S128x8192 .f32 from V m c main_v16) (ix2 k i) = if BitVec.ofNat 32 k.val = bins (targets m c) (ix1 i) then 1 else 0 := by
  rw [show V m c = fun b => V0 m c (Proc.devRef .tc b) from rfl, V0_flat]
  show StableHlo.after (hostOps0 (F := Ideal)) (fun b => m (c, b)) _ _ = _
  entry_read
  pointwise
  rw [WordCmp.cmpi_eq_eq]
  split_ifs with h
  · rw [decide_eq_true h]; exact one_word
  · rw [decide_eq_false h]; exact zero_word

end Cert.KernelIdeal.Entry

end
-- ==== Proof.Accs.lean ====
/- The three accumulators after the sixteen points, as sums over all 8192 examples, and the result array. -/
module

public import proofs.«01_k».proof.Proof.Point
public import proofs.«01_k».proof.Proof.Entry

@[expose] public section

set_option maxRecDepth 16384

noncomputable section

namespace Cert.KernelIdeal.Accs

open Cert.KernelIdeal Cert.KernelIdeal.Gen Cert.KernelIdeal.Body Cert.KernelIdeal.Point Cert.KernelIdeal.Entry
open Idealize.ShloMosaic Idealize.ShloMosaic.TcCoe Idealize.SL.Sem
open Idealize.ShloMosaic.Pipeline (Dat)

variable (m : (ℓ : Loc nD τ sig) → Buf (Elt Ideal) ℓ) (c : Dev nD)

/-- The one-hot array the launch is given. -/
abbrev hot : FVec Ideal S128x8192 .f32 := V m c main_v16
/-- The row of durations the launch is given. -/
abbrev durRow : FVec Ideal S1x8192 .f32 := V m c main_v17
/-- The column of durations the launch is given. -/
abbrev durCol : FVec Ideal S8192x1 .f32 := V m c main_v18
/-- The row of events the launch is given. -/
abbrev evRow : FVec Ideal S1x8192 .f32 := V m c main_v19

/-- The point's coordinate is its number. -/
theorem coord : ∀ t : Fin cfg0.N, (grid0.coords t 0).val = t.val :=
  (by decide +kernel : ∀ t : Fin grid0.N, (grid0.coords t 0).val = t.val)

/-- Lane `l` of block `t` among the 8192 examples. -/
abbrev ex (t : ℕ) (ht : t < 16) (l : Fin 512) : Fin 8192 := ⟨t * 512 + l.val, by have := l.isLt; omega⟩

/-- A lane of a point, as an example. -/
theorem lane_eq (t : Fin cfg0.N) (ht : t.val < 16) (l : Fin 512) : lane (grid0.coords t) l = ex t.val ht l :=
  Fin.ext (by show (grid0.coords t 0).val * 512 + l.val = t.val * 512 + l.val; rw [coord])

/-- The sum over the first `n` blocks of 512 examples. -/
def upto (f : Fin 8192 → EReal) (n : ℕ) : EReal := ∑ t ∈ Finset.range n, if h : t < 16 then ∑ l, f (ex t h l) else 0

/-- One block more. -/
theorem upto_succ (f : Fin 8192 → EReal) (n : ℕ) (hn : n < 16) : upto f (n + 1) = upto f n + ∑ l, f (ex n hn l) := by
  unfold upto
  rw [Finset.sum_range_succ, dif_pos hn]

/-- The sixteen blocks are all the examples. -/
theorem upto_all (f : Fin 8192 → EReal) : upto f 16 = ∑ i, f i := by
  unfold upto
  rw [Fin.sum_univ_tiles 16 512 rfl f, Finset.sum_range]
  exact Finset.sum_congr rfl fun t _ => by rw [dif_pos t.isLt]

/-- The accumulators before point `n`. -/
theorem accs_eq (n : ℕ) (hn : n ≤ 16) :
    accs m c n = (upto (fun i => likTerm (preds m c) (hot m c) (evRow m c) i) n,
      upto (fun i => ∑ j, pair (preds m c) (hot m c) (durRow m c) (durCol m c) (evRow m c) i j) n,
      upto (fun i => (∑ j, later (durRow m c) (durCol m c) i j) * (if evRow m c (ix2 0 i) = 1 then 1 else 0)) n) := by
  induction n with
  | zero =>
    rw [accs]
    simp only [upto, Finset.range_zero, Finset.sum_empty]
    exact congrArg₂ Prod.mk Ideal.ofBits_zero_f32 (congrArg₂ Prod.mk Ideal.ofBits_zero_f32 Ideal.ofBits_zero_f32)
  | succ n ih =>
    have ht : n < cfg0.N := hn
    have h16 : n < 16 := hn
    have hs := accs_succ m c ⟨n, ht⟩
    dsimp only at hs
    rw [hs, ih (Nat.le_of_lt h16), upto_succ _ n h16, upto_succ _ n h16, upto_succ _ n h16]
    rw [iblk0, iblk1, iblk2, iblk3, iblk4]
    have e := lane_eq ⟨n, ht⟩ h16
    refine congrArg₂ Prod.mk ?_ (congrArg₂ Prod.mk ?_ ?_)
    · refine (likStep_eq _ _ _ _ _).trans ?_
      simp only [e]
    · refine (rankStep_eq _ _ _ _ _ _ _).trans ?_
      simp only [e]
    · refine (cntStep_eq _ _ _ _ _).trans ?_
      simp only [e]

/-- The kernel's loss, from the arrays its launch is given. -/
def loss : EReal :=
  Ideal.ofBits .f32 0x3F000000#32 * Ideal.div (∑ i, likTerm (preds m c) (hot m c) (evRow m c) i) (Ideal.ofBits .f32 0x46000000#32)
    + Ideal.ofBits .f32 0x3F000000#32 *
      (if 0 < ∑ i, (∑ j, later (durRow m c) (durCol m c) i j) * (if evRow m c (ix2 0 i) = 1 then 1 else 0)
        then Ideal.div (∑ i, ∑ j, pair (preds m c) (hot m c) (durRow m c) (durCol m c) (evRow m c) i j)
          (max (∑ i, (∑ j, later (durRow m c) (durCol m c) i j) * (if evRow m c (ix2 0 i) = 1 then 1 else 0)) 1)
        else 0)

/-- What the last point writes, in every lane. -/
theorem outAt_eq (l : Fin 128) : outAt m c 16 (ix2 0 l) = loss m c := by
  unfold outAt loss
  rw [accs_eq m c 16 le_rfl]
  dsimp only
  rw [Block.out_at, upto_all, upto_all, upto_all]

/-- The result array after the run. -/
theorem final : (dats m 0 c).arrAt 5 (cfgs 0).N = outAt m c 16 := by
  refine (dats m 0 c).arrAt_eq_of_after_last 5 t0_15 (by decide +kernel) _ fun j => ?_
  blk_simp
  rw [after5, show t0_15.val + 1 = 16 from rfl]

/-- The result after the last line of host operations: element (0, 0) of the result array. -/
theorem tail_eq : (show FVec Ideal S_ .f32 from Pipeline.afterTail₀ cfgs (dats m) 0 (V0 m) [hostOps1] c main_v22) ix0 = loss m c := by
  unfold Pipeline.afterTail₀
  show StableHlo.after (hostOps1 (F := Ideal)) _ _ _ = _
  entry_read
  pointwise
  have h := (Pipeline.withArrays_arr (cfgs 0).spec (by decide) c (V0 m c) (fun w => (dats m 0 c).arrAt w (cfgs 0).N) 5).trans (final m c)
  exact (congrFun h (ix2 0 0)).trans (outAt_eq m c 0)

/-- The kernel, read at the extended reals, ends with the loss as its result and its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v22) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v22 (Pipeline.mem_restRefs_of main_v22 (by decide) (by decide))).trans
      (funext fun i => (congrArg _ (funext fun d => d.elim0)).trans (tail_eq m c)),
      ((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c)⟩) (run_main m ρ)

end Cert.KernelIdeal.Accs

end
-- ==== Proof.Parts.lean ====
/- The reference's result, part by part, as a function of the predictions and the targets. -/
module

public import proofs.«01_k».proof.Proof.Gen.ReferenceIdeal.Run
public import Idealize.ShloMosaic.Lib.Pointwise

@[expose] public section

set_option maxRecDepth 16384

noncomputable section

namespace Cert.ReferenceIdeal.Parts

open Cert.ReferenceIdeal Cert.ReferenceIdeal.Gen
open Idealize.ShloMosaic Idealize.ShloMosaic.TcCoe Idealize.SL.Sem

/-- The durations. -/
def dur (T : FVec Ideal S8192x2 .f32) : FVec Ideal S8192 .f32 :=
  shapeCast _ (extractStridedSlice S8192x1 ![0, 0] T slices_S8192x2_S8192x1_0_0) shapeCasts_S8192x1_S8192

/-- The event indicators. -/
def ev (T : FVec Ideal S8192x2 .f32) : FVec Ideal S8192 .f32 :=
  shapeCast _ (extractStridedSlice S8192x1 ![0, 1] T slices_S8192x2_S8192x1_0_1) shapeCasts_S8192x1_S8192

/-- The bins, as 32-bit words. -/
def bins (T : FVec Ideal S8192x2 .f32) : IVec S8192 32 :=
  fptosi 32 (mulf (Host.divf (dur T) (broadcastInDim S8192 ![] bcast_S_S8192 (Host.reduce FloatOps.maximumf (dur T) (constant S_ .f32 0xFF800000#32) reducesTo_S8192_S_d0 h_S_))) (broadcastInDim S8192 ![] bcast_S_S8192 (constant S_ .f32 0x42FE0000#32)))

/-- The bins, a negative one counted from the end. -/
def wrapped (T : FVec Ideal S8192x2 .f32) : IVec S8192 32 :=
  select (cmpi .slt (bins T) (broadcastInDim S8192 ![] bcast_S_S8192 (constantI S_ 32 0#32))) (addi (bins T) (broadcastInDim S8192 ![] bcast_S_S8192 (constantI S_ 32 128#32))) (bins T)

/-- Each example's prediction at its own bin. -/
def own (X : FVec Ideal S8192x128 .f32) (T : FVec Ideal S8192x2 .f32) : FVec Ideal S8192 .f32 :=
  Host.gather gather_S8192x128_S8192x2_S8192_n_01_n_n_01_1_11 X (concatenate S8192x2 1 [⟨S8192x1, (broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0)))⟩, ⟨S8192x1, (broadcastInDim S8192x1 ![0] bcast_S8192_S8192x1_0 (wrapped T))⟩] concatenates_S8192x1_S8192x1_S8192x2_d1)

/-- The comparable pairs. -/
def mask (T : FVec Ideal S8192x2 .f32) : IVec S8192x8192 1 :=
  andi (cmpf .olt (broadcastInDim S8192x8192 ![0, 1] bcast_S8192x1_S8192x8192_0_1 (broadcastInDim S8192x1 ![0] bcast_S8192_S8192x1_0 (dur T))) (broadcastInDim S8192x8192 ![0, 1] bcast_S1x8192_S8192x8192_0_1 (broadcastInDim S1x8192 ![1] bcast_S8192_S1x8192_1 (dur T)))) (broadcastInDim S8192x8192 ![0, 1] bcast_S8192x1_S8192x8192_0_1 (cmpf .oeq (broadcastInDim S8192x1 ![0] bcast_S8192_S8192x1_0 (ev T)) (broadcastInDim S8192x1 ![] bcast_S_S8192x1 (constant S_ .f32 0x3F800000#32))))

/-- Whether a bin is one of the 128. -/
def inRange (T : FVec Ideal S8192x2 .f32) : IVec S8192 1 :=
  Host.reduce IntOp.andi (andi (cmpi .sge (broadcastInDim S8192x1 ![0] bcast_S8192_S8192x1_0 (wrapped T)) (broadcastInDim S8192x1 ![] bcast_S_S8192x1 (constantI S_ 32 0#32))) (cmpi .sle (broadcastInDim S8192x1 ![0] bcast_S8192_S8192x1_0 (wrapped T)) (broadcastInDim S8192x1 ![0, 1] bcast_S1x1_S8192x1_0_1 (broadcastInDim S1x1 ![1] bcast_S1_S1x1_1 (constantI S1 32 127#32))))) (constantI S_ 1 1#1) reducesTo_S8192x1_S8192_d1 h_S_

/-- Every example's prediction at every example's bin, the bin's number clamped. -/
def cols (X : FVec Ideal S8192x128 .f32) (T : FVec Ideal S8192x2 .f32) : FVec Ideal S8192x8192 .f32 :=
  Host.gather gather_S8192x128_S8192x1_S8192x8192_0_1_n_n_1_1_81921 X (broadcastInDim S8192x1 ![0] bcast_S8192_S8192x1_0 (wrapped T))

/-- The positive part of each difference of predictions. -/
def diff (X : FVec Ideal S8192x128 .f32) (T : FVec Ideal S8192x2 .f32) : FVec Ideal S8192x8192 .f32 :=
  maximumf (subf (transpose S8192x8192 [1, 0] (select (broadcastInDim S8192x8192 ![1] bcast_S8192_S8192x8192_1 (inRange T)) (cols X T) (broadcastInDim S8192x8192 ![] bcast_S_S8192x8192 (constant S_ .f32 0x7FC00000#32))) transposes_S8192x8192_S8192x8192_1_0) (broadcastInDim S8192x8192 ![0, 1] bcast_S8192x1_S8192x8192_0_1 (broadcastInDim S8192x1 ![0] bcast_S8192_S8192x1_0 (own X T)))) (broadcastInDim S8192x8192 ![] bcast_S_S8192x8192 (constant S_ .f32 0x00000000#32))

/-- The sum of the ranking terms. -/
def rankSum (X : FVec Ideal S8192x128 .f32) (T : FVec Ideal S8192x2 .f32) : FVec Ideal S_ .f32 :=
  Host.reduceAdd (select (mask T) (diff X T) (broadcastInDim S8192x8192 ![] bcast_S_S8192x8192 (id (constant S_ .f32 0x00000000#32)))) (constant S_ .f32 0x00000000#32) reducesTo_S8192x8192_S_d0_1 h_S_

/-- The number of comparable pairs. -/
def count (T : FVec Ideal S8192x2 .f32) : IVec S_ 32 :=
  Host.reduce IntOp.addi (extui 32 (mask T) natLt_1_32) (constantI S_ 32 0#32) reducesTo_S8192x8192_S_d0_1 h_S_

/-- The likelihood terms. -/
def lik (X : FVec Ideal S8192x128 .f32) (T : FVec Ideal S8192x2 .f32) : FVec Ideal S8192 .f32 :=
  mulf (mulf (Host.negf (Host.log (addf (own X T) (broadcastInDim S8192 ![] bcast_S_S8192 (constant S_ .f32 0x322BCC77#32))))) (ev T)) (id (select (cmpf .oeq (ev T) (broadcastInDim S8192 ![] bcast_S_S8192 (constant S_ .f32 0x3F800000#32))) (broadcastInDim S8192 ![] bcast_S_S8192 (constant S_ .f32 0x3F800000#32)) (broadcastInDim S8192 ![] bcast_S_S8192 (constant S_ .f32 0x3F800000#32))))

/-- The mean ranking term. -/
def rank (X : FVec Ideal S8192x128 .f32) (T : FVec Ideal S8192x2 .f32) : FVec Ideal S_ .f32 :=
  select (cmpi .sgt (count T) (constantI S_ 32 0#32)) (Host.divf (mulf (rankSum X T) (constant S_ .f32 0x3F800000#32)) (sitofp .f32 (maxsi (count T) (constantI S_ 32 1#32)))) (id (constant S_ .f32 0x00000000#32))

/-- Each example's share of the loss. -/
def terms (X : FVec Ideal S8192x128 .f32) (T : FVec Ideal S8192x2 .f32) : FVec Ideal S8192 .f32 :=
  addf (mulf (broadcastInDim S8192 ![] bcast_S_S8192 (constant S_ .f32 0x3F000000#32)) (lik X T)) (broadcastInDim S8192 ![] bcast_S_S8192 (mulf (constant S_ .f32 0x3F000000#32) (rank X T)))

/-- The reference's result. -/
def total (X : FVec Ideal S8192x128 .f32) (T : FVec Ideal S8192x2 .f32) : FVec Ideal S_ .f32 :=
  Host.divf (Host.reduceAdd (terms X T) (constant S_ .f32 0x00000000#32) reducesTo_S8192_S_d0 h_S_) (constant S_ .f32 0x46000000#32)

/-- The run's result is `total` of the two arguments. -/
theorem res_eq (m : (ℓ : Loc nD τ sig) → Buf (Elt Ideal) ℓ) (c : Dev nD) :
    Value.res_main_v67 m c = total (m ((c.tc : Thread nD τ).loc main_arg0)) (m ((c.tc : Thread nD τ).loc main_arg1)) := rfl

end Cert.ReferenceIdeal.Parts

end
-- ==== Proof.Gathers.lean ====
/- The reference's two gathers, read at an index whose bin is one of the 128. -/
module

public import proofs.«01_k».proof.Proof.Gen.ReferenceIdeal
public import Idealize.ShloMosaic.Lib.Pointwise
public import Idealize.ShloMosaic.Lib.StableHlo.Predicate

@[expose] public section

set_option maxRecDepth 16384

noncomputable section

namespace Cert.ReferenceIdeal.Gathers

open Cert.ReferenceIdeal Cert.ReferenceIdeal.Gen
open Idealize.ShloMosaic Idealize.ShloMosaic.TcCoe Idealize.SL.Sem

/-- The gather of single elements: element `i` is the operand at the row and the column the pair of indices at `i` names. -/
theorem elems {α : Type} (x : S8192x128.Idx → α) (idx : IVec S8192x2 32) (i r : Fin 8192) (k : Fin 128)
    (h0 : idx (ix2 i 0) = BitVec.ofNat 32 r.val) (h1 : idx (ix2 i 1) = BitVec.ofNat 32 k.val) :
    Host.gather gather_S8192x128_S8192x2_S8192_n_01_n_n_01_1_11 x idx (ix1 i) = x (ix2 r k) := by
  unfold Host.gather
  refine congrArg x (funext fun a => Fin.ext ?_)
  have hr := r.isLt
  have hk := k.isLt
  show GatherDims.start _ (ix1 i) idx a + GatherDims.batchCoord _ (ix1 i) a + GatherDims.offCoord _ (ix1 i) a = _
  rw [GatherDims.batchCoord_eq_zero _ _ _ List.not_mem_nil]
  match a with
  | ⟨0, _⟩ =>
    rw [GatherDims.offCoord_eq_zero _ _ _ (fun h => ((GatherDims.mem_sKept _ _).mp h).1 (by decide +revert))]
    unfold GatherDims.start
    rw [dif_pos (by decide +revert)]
    have hsi : gather_S8192x128_S8192x2_S8192_n_01_n_n_01_1_11.siIdx (ix1 i) ⟨List.idxOf (0 : Fin 2) [0, 1], by decide⟩ = ix2 i 0 := by
      funext b
      match b with
      | ⟨0, _⟩ => rfl
      | ⟨1, _⟩ => rfl
    refine (congrArg (fun z : BitVec 32 => min z.toInt.toNat 8191) ((congrArg idx hsi).trans h0)).trans ?_
    rw [StableHlo.Predicate.toInt_ofNat_small _ (by omega)]
    show min ((r.val : Int)).toNat 8191 = r.val
    omega
  | ⟨1, _⟩ =>
    rw [GatherDims.offCoord_eq_zero _ _ _ (fun h => ((GatherDims.mem_sKept _ _).mp h).1 (by decide +revert))]
    unfold GatherDims.start
    rw [dif_pos (by decide +revert)]
    have hsi : gather_S8192x128_S8192x2_S8192_n_01_n_n_01_1_11.siIdx (ix1 i) ⟨List.idxOf (1 : Fin 2) [0, 1], by decide⟩ = ix2 i 1 := by
      funext b
      match b with
      | ⟨0, _⟩ => rfl
      | ⟨1, _⟩ => rfl
    refine (congrArg (fun z : BitVec 32 => min z.toInt.toNat 127) ((congrArg idx hsi).trans h1)).trans ?_
    rw [StableHlo.Predicate.toInt_ofNat_small _ (by omega)]
    show min ((k.val : Int)).toNat 127 = k.val
    omega

/-- The gather of columns: element `(j, i)` is the operand at row `j` and the column the index at `i` names. -/
theorem columns {α : Type} (x : S8192x128.Idx → α) (idx : IVec S8192x1 32) (j i : Fin 8192) (k : Fin 128)
    (h : idx (ix2 i 0) = BitVec.ofNat 32 k.val) :
    Host.gather gather_S8192x128_S8192x1_S8192x8192_0_1_n_n_1_1_81921 x idx (ix2 j i) = x (ix2 j k) := by
  unfold Host.gather
  refine congrArg x (funext fun a => Fin.ext ?_)
  have hk := k.isLt
  show GatherDims.start _ (ix2 j i) idx a + GatherDims.batchCoord _ (ix2 j i) a + GatherDims.offCoord _ (ix2 j i) a = _
  rw [GatherDims.batchCoord_eq_zero _ _ _ List.not_mem_nil]
  match a with
  | ⟨0, _⟩ =>
    unfold GatherDims.start
    rw [dif_neg (by decide +revert), Nat.zero_add]
    unfold GatherDims.offCoord
    rw [dif_pos (by decide +revert)]
    rfl
  | ⟨1, _⟩ =>
    rw [GatherDims.offCoord_eq_zero _ _ _ (fun h => ((GatherDims.mem_sKept _ _).mp h).1 (by decide +revert))]
    unfold GatherDims.start
    rw [dif_pos (by decide +revert)]
    have hsi : gather_S8192x128_S8192x1_S8192x8192_0_1_n_n_1_1_81921.siIdx (ix2 j i) ⟨List.idxOf (1 : Fin 2) [1], by decide⟩ = ix2 i 0 := by
      funext b
      match b with
      | ⟨0, _⟩ => rfl
      | ⟨1, _⟩ => rfl
    refine (congrArg (fun z : BitVec 32 => min z.toInt.toNat 127) ((congrArg idx hsi).trans h)).trans ?_
    rw [StableHlo.Predicate.toInt_ofNat_small _ (by omega)]
    show min ((k.val : Int)).toNat 127 = k.val
    omega

end Cert.ReferenceIdeal.Gathers

end
-- ==== Proof.Bin.lean ====
/- What the precondition says of one example, and that its bin is then one of the 128. -/
module

public import proofs.«01_k».proof.Proof.Gen.Pre_targets_in_range
public import Idealize.ShloMosaic.Lib.Pointwise
public import Idealize.ShloMosaic.Lib.WordCmp

@[expose] public section

set_option maxRecDepth 16384

noncomputable section

namespace Cert.Bin

open Cert.Pre_targets_in_range Cert.Pre_targets_in_range.Gen
open Idealize.ShloMosaic Idealize.ShloMosaic.TcCoe Idealize.SL.Sem

/-- The word of the number of bins less one. -/
theorem ofBits_127 : Ideal.ofBits .f32 0x42FE0000#32 = ((127 : ℝ) : EReal) := by
  simp [Ideal.ofBits, Ideal.ieee, -EReal.coe_mul]; norm_num

/-- The word of minus infinity. -/
theorem ofBits_bot : Ideal.ofBits .f32 0xFF800000#32 = ⊥ := by
  simp [Ideal.ofBits, Ideal.ieee]

/-- A real in `[0, 127]` truncates to a word below 128. -/
theorem trunc (y : ℝ) (h0 : 0 ≤ y) (h1 : y ≤ 127) : ∃ d : Fin 128, Ideal.fptosi 32 ((y : ℝ) : EReal) = BitVec.ofNat 32 d.val := by
  have hf0 : 0 ≤ ⌊y⌋ := Int.floor_nonneg.2 h0
  have hf1 : ⌊y⌋ ≤ 127 := Int.floor_le_iff.2 (by push_cast; linarith)
  refine ⟨⟨⌊y⌋.toNat, by omega⟩, ?_⟩
  unfold Ideal.fptosi
  rw [Ideal.toIntClamped_coe, if_pos h0, min_eq_right (by norm_num; omega), max_eq_right (by norm_num; omega)]
  show BitVec.ofInt 32 ⌊y⌋ = BitVec.ofNat 32 ⌊y⌋.toNat
  rw [← BitVec.ofInt_natCast, Int.toNat_of_nonneg hf0]

/-- A duration that is not negative and at most the longest, over the longest, times 127, truncates to a bin's number. -/
theorem word (x M : EReal) (h0 : 0 ≤ x) (hM : 0 < M) (hx : x ≤ M) :
    ∃ d : Fin 128, Ideal.fptosi 32 (Ideal.div x M * Ideal.ofBits .f32 0x42FE0000#32) = BitVec.ofNat 32 d.val := by
  rw [ofBits_127]
  unfold Ideal.div
  rw [if_neg (ne_of_gt hM)]
  induction M with
  | bot => exact absurd hM (by simp)
  | top =>
    rw [EReal.inv_top, mul_zero, zero_mul]
    exact trunc 0 le_rfl (by norm_num)
  | coe r =>
    induction x with
    | bot => exact absurd h0 (by simp)
    | top => exact absurd hx (by simp)
    | coe s =>
      have hs : 0 ≤ s := EReal.coe_nonneg.1 h0
      have hr : 0 < r := EReal.coe_pos.1 hM
      have hsr : s ≤ r := EReal.coe_le_coe_iff.1 hx
      rw [← EReal.coe_inv, ← EReal.coe_mul, ← EReal.coe_mul]
      refine trunc _ (by positivity) ?_
      have : s * r⁻¹ ≤ 1 := by rw [← div_eq_mul_inv]; exact (div_le_one hr).2 hsr
      nlinarith

variable (X : FVec Ideal S8192x128 .f32) (T : FVec Ideal S8192x2 .f32)

/-- The longest duration. -/
def longest : EReal := Finset.fold max (Ideal.ofBits .f32 0xFF800000#32) (fun x : Fin 8192 => T (ix2 x 0)) Finset.univ

/-- No duration is above the longest. -/
theorem le_longest (i : Fin 8192) : T (ix2 i 0) ≤ longest T :=
  Finset.le_fold_max _ |>.2 (Or.inr ⟨i, Finset.mem_univ i, le_rfl⟩)

/-- The precondition at one example. -/
theorem fn_at (i : Fin 8192) : fn (F := Ideal) X T (ix1 i)
    = IntOp.andi (IntOp.andi (BitVec.ofBool (decide (0 ≤ T (ix2 i 0)))) (BitVec.ofBool (decide (0 < longest T))))
        (IntOp.ori (BitVec.ofBool (decide (T (ix2 i 1) = 0))) (BitVec.ofBool (decide (T (ix2 i 1) = 1)))) := by
  pointwise [fn]
  rfl

/-- Under the precondition every duration is not negative, the longest is positive and every event is 0 or 1. -/
theorem pre_at (h : fn (F := Ideal) X T = fun _ => 1#1) (i : Fin 8192) :
    0 ≤ T (ix2 i 0) ∧ 0 < longest T ∧ (T (ix2 i 1) = 0 ∨ T (ix2 i 1) = 1) := by
  have e := (fn_at X T i).symm.trans (congrFun h (ix1 i))
  have key : ∀ a b c d : Bool, IntOp.andi (IntOp.andi (BitVec.ofBool a) (BitVec.ofBool b)) (IntOp.ori (BitVec.ofBool c) (BitVec.ofBool d)) = 1#1 →
      a = true ∧ b = true ∧ (c = true ∨ d = true) := by decide
  simpa only [decide_eq_true_eq] using key _ _ _ _ e

end Cert.Bin

end
-- ==== Proof.Reference.lean ====
/- The reference's parts read at an index, for examples whose bins are among the 128. -/
module

public import proofs.«01_k».proof.Proof.Parts
public import proofs.«01_k».proof.Proof.Gathers
public import proofs.«01_k».proof.Proof.Bin
public import Idealize.ShloMosaic.Lib.WordCmp

@[expose] public section

set_option maxRecDepth 16384

noncomputable section

namespace Cert.ReferenceIdeal.Parts

open Cert.ReferenceIdeal Cert.ReferenceIdeal.Gen
open Idealize.ShloMosaic Idealize.ShloMosaic.TcCoe Idealize.SL.Sem

open Idealize.ShloMosaic.ValueIdx (select_one select_zero)

variable (X : FVec Ideal S8192x128 .f32) (T : FVec Ideal S8192x2 .f32) (d : Fin 8192 → Fin 128)

/-- A bin is the truncation of the duration over the longest one, times 127. -/
theorem bins_at (i : Fin 8192) :
    bins T (ix1 i) = Ideal.fptosi 32 (Ideal.div (T (ix2 i 0)) (Bin.longest T) * Ideal.ofBits .f32 0x42FE0000#32) := by
  pointwise [bins, dur]
  rfl

/-- A bin among the 128 is not wrapped. -/
theorem wrapped_at (hb : ∀ i, bins T (ix1 i) = BitVec.ofNat 32 (d i).val) (i : Fin 8192) :
    wrapped T (ix1 i) = BitVec.ofNat 32 (d i).val := by
  have hd := (d i).isLt
  have e : wrapped T (ix1 i) = Scalar.select (IntOp.cmpi .slt (bins T (ix1 i)) 0#32) (IntOp.addi (bins T (ix1 i)) 128#32) (bins T (ix1 i)) := by
    pointwise [wrapped]
  rw [e, hb, (WordCmp.cmpi_slt_ofNat_eq_zero_iff (b := 0) (by omega) (by norm_num)).2 (by omega), select_zero]

/-- A bin among the 128 passes the range test. -/
theorem inRange_at (hb : ∀ i, bins T (ix1 i) = BitVec.ofNat 32 (d i).val) (i : Fin 8192) : inRange T (ix1 i) = 1#1 := by
  have hd := (d i).isLt
  have e : inRange T (ix1 i) = Finset.fold IntOp.andi 1#1 (fun x : Fin 1 => IntOp.andi (IntOp.cmpi .sge (wrapped T (ix1 i)) 0#32)
      (IntOp.cmpi .sle (wrapped T (ix1 i)) 127#32)) Finset.univ := by
    pointwise [inRange]
  rw [e, wrapped_at T d hb, (WordCmp.cmpi_sge_ofNat_eq_one_iff (b := 0) (by omega) (by norm_num)).2 (Nat.zero_le _),
    (WordCmp.cmpi_sle_ofNat_eq_one_iff (b := 127) (by omega) (by norm_num)).2 (by omega)]
  rfl

/-- Example `i`'s prediction at its own bin. -/
theorem own_at (hb : ∀ i, bins T (ix1 i) = BitVec.ofNat 32 (d i).val) (i : Fin 8192) : own X T (ix1 i) = X (ix2 i (d i)) := by
  have hi := i.isLt
  refine Gathers.elems X _ i i (d i) ?_ ?_
  · pointwise
    show Scalar.select (IntOp.cmpi .slt (BitVec.ofNat 32 i.val) 0#32) _ _ = _
    rw [(WordCmp.cmpi_slt_ofNat_eq_zero_iff (b := 0) (by omega) (by norm_num)).2 (by omega), select_zero]
  · pointwise
    exact wrapped_at T d hb i

/-- Example `j`'s prediction at the bin of example `i`. -/
theorem cols_at (hb : ∀ i, bins T (ix1 i) = BitVec.ofNat 32 (d i).val) (j i : Fin 8192) : cols X T (ix2 j i) = X (ix2 j (d i)) := by
  refine Gathers.columns X _ j i (d i) ?_
  pointwise
  exact wrapped_at T d hb i

/-- The positive part of example `j`'s prediction at the bin of `i` less `i`'s own. -/
theorem diff_at (hb : ∀ i, bins T (ix1 i) = BitVec.ofNat 32 (d i).val) (i j : Fin 8192) :
    diff X T (ix2 i j) = max (X (ix2 j (d i)) - X (ix2 i (d i))) 0 := by
  have e : diff X T (ix2 i j) = max (Scalar.select (inRange T (ix1 i)) (cols X T (ix2 j i)) (Ideal.ofBits .f32 0x7FC00000#32) - own X T (ix1 i)) 0 := by
    pointwise [diff]
  rw [e, inRange_at T d hb, select_one, cols_at X T d hb, own_at X T d hb]

/-- The pair `(i, j)` is comparable: `i` has its event, and before `j`'s time. -/
abbrev Comparable (i j : Fin 8192) : Prop := T (ix2 i 0) < T (ix2 j 0) ∧ T (ix2 i 1) = 1

open Classical in
/-- The mask is the comparable pairs. -/
theorem mask_at (i j : Fin 8192) : mask T (ix2 i j) = BitVec.ofBool (decide (Comparable T i j)) := by
  have e : mask T (ix2 i j) = IntOp.andi (BitVec.ofBool (decide (T (ix2 i 0) < T (ix2 j 0)))) (BitVec.ofBool (decide (T (ix2 i 1) = 1))) := by
    pointwise [mask, dur, ev]
  rw [e]
  by_cases h0 : T (ix2 i 0) < T (ix2 j 0) <;> by_cases h1 : T (ix2 i 1) = 1 <;> simp [h0, h1, IntOp.andi]

open Classical in
/-- The ranking sum, over the comparable pairs. -/
theorem rankSum_at (hb : ∀ i, bins T (ix1 i) = BitVec.ofNat 32 (d i).val) :
    rankSum X T ix0 = ∑ i, ∑ j, if Comparable T i j then max (X (ix2 j (d i)) - X (ix2 i (d i))) 0 else 0 := by
  have e : rankSum X T ix0 = ∑ i, ∑ j, Scalar.select (mask T (ix2 i j)) (diff X T (ix2 i j)) (id (constant (F := Ideal) S_ .f32 0x00000000#32) ix0) := by
    pointwise [rankSum]
  rw [e]
  refine Finset.sum_congr rfl fun i _ => Finset.sum_congr rfl fun j _ => ?_
  rw [mask_at, diff_at X T d hb, show id (constant (F := Ideal) S_ .f32 0x00000000#32) ix0 = 0 from Ideal.ofBits_zero_f32]
  by_cases h : Comparable T i j
  · rw [if_pos h, decide_eq_true h]; exact select_one _ _
  · rw [if_neg h, decide_eq_false h]; exact select_zero _ _

/-- A sum of words that hold naturals holds the sum of the naturals. -/
theorem fold_addi {ι : Type} [DecidableEq ι] (s : Finset ι) (g : ι → BitVec 32) (f : ι → ℕ) (h : ∀ k, g k = BitVec.ofNat 32 (f k)) :
    Finset.fold IntOp.addi 0#32 g s = BitVec.ofNat 32 (∑ k ∈ s, f k) := by
  induction s using Finset.induction_on with
  | empty => rfl
  | insert a s ha ih => rw [Finset.fold_insert ha, Finset.sum_insert ha, ih, h a]; exact (BitVec.ofNat_add _ _).symm

open Classical in
/-- The number of comparable pairs. -/
def pairs : ℕ := ∑ i : Fin 8192, ∑ j : Fin 8192, if Comparable T i j then 1 else 0

/-- There are at most `2 ^ 26` comparable pairs. -/
theorem pairs_le : pairs T ≤ 8192 * 8192 := by
  unfold pairs
  refine (Finset.sum_le_card_nsmul _ _ 8192 fun i _ => ?_).trans (by simp)
  refine (Finset.sum_le_card_nsmul _ _ 1 fun j _ => ?_).trans (by simp)
  split <;> simp

/-- The count's word holds that number. -/
theorem count_at : count T ix0 = BitVec.ofNat 32 (pairs T) := by
  have e : count T ix0 = Finset.fold IntOp.addi 0#32 (fun k : Fin 8192 × Fin 8192 => BitVec.setWidth 32 (mask T (ix2 k.1 k.2))) Finset.univ := by
    pointwise [count]
  classical
  rw [e, fold_addi _ _ (fun k => if Comparable T k.1 k.2 then 1 else 0) fun k => ?_, Fintype.sum_prod_type]
  · rfl
  · rw [mask_at]
    by_cases h : Comparable T k.1 k.2
    · rw [if_pos h, decide_eq_true h]; rfl
    · rw [if_neg h, decide_eq_false h]; rfl

/-- A likelihood term. -/
theorem lik_at (hb : ∀ i, bins T (ix1 i) = BitVec.ofNat 32 (d i).val) (i : Fin 8192) :
    lik X T (ix1 i) = -(Ideal.log (X (ix2 i (d i)) + Ideal.ofBits .f32 0x322BCC77#32)) * T (ix2 i 1) := by
  have e : lik X T (ix1 i) = -Ideal.log (own X T (ix1 i) + Ideal.ofBits .f32 0x322BCC77#32) * T (ix2 i 1) * id (select
      (cmpf .oeq (ev T) (broadcastInDim S8192 ![] bcast_S_S8192 (constant S_ .f32 0x3F800000#32)))
      (broadcastInDim S8192 ![] bcast_S_S8192 (constant (F := Ideal) S_ .f32 0x3F800000#32))
      (broadcastInDim S8192 ![] bcast_S_S8192 (constant S_ .f32 0x3F800000#32))) (ix1 i) := by
    pointwise [lik, ev]
  rw [e, own_at X T d hb, id]
  have e1 : select (cmpf .oeq (ev T) (broadcastInDim S8192 ![] bcast_S_S8192 (constant S_ .f32 0x3F800000#32)))
      (broadcastInDim S8192 ![] bcast_S_S8192 (constant (F := Ideal) S_ .f32 0x3F800000#32))
      (broadcastInDim S8192 ![] bcast_S_S8192 (constant S_ .f32 0x3F800000#32)) (ix1 i) = 1 := by
    pointwise
    exact ite_self _
  rw [e1, mul_one]

/-- The greater of a positive word and one is the word. -/
theorem maxsi_one (n : ℕ) (h0 : 0 < n) (h : n < 2 ^ 31) : IntOp.maxsi (BitVec.ofNat 32 n) 1#32 = BitVec.ofNat 32 n := by
  unfold IntOp.maxsi
  split
  · rfl
  · next hs =>
    have hn : ¬1 < n := fun h1 => hs (by
      rw [BitVec.slt_eq_decide, StableHlo.Predicate.toInt_ofNat_small _ h]
      exact decide_eq_true (by show (1 : ℤ) < n; omega))
    rw [show n = 1 by omega]

/-- The mean ranking term: the sum over the number of pairs, zero where there is none. -/
theorem rank_at : rank X T ix0 = if 0 < pairs T then Ideal.div (rankSum X T ix0) ((pairs T : ℝ) : EReal) else 0 := by
  have e : rank X T ix0 = Scalar.select (IntOp.cmpi .sgt (count T ix0) 0#32)
      (Ideal.div (rankSum X T ix0) (FloatOps.sitofp (F := Ideal) .f32 (IntOp.maxsi (count T ix0) 1#32))) (id (constant (F := Ideal) S_ .f32 0x00000000#32) ix0) := by
    pointwise [rank]
  have hp := pairs_le T
  rw [e, count_at]
  by_cases h : 0 < pairs T
  · rw [if_pos h, (WordCmp.cmpi_sgt_ofNat_eq_one_iff (b := 0) (by omega) (by norm_num)).2 h, select_one, maxsi_one _ h (by omega)]
    show Ideal.div _ (((BitVec.ofNat 32 (pairs T)).toInt : ℝ) : EReal) = _
    rw [StableHlo.Predicate.toInt_ofNat_small _ (by omega), Int.cast_natCast]
  · rw [if_neg h, (WordCmp.cmpi_sgt_ofNat_eq_zero_iff (b := 0) (by omega) (by norm_num)).2 h, select_zero]
    exact Ideal.ofBits_zero_f32

/-- An example's share of the loss: half its likelihood term and half the ranking term, whatever the two are. -/
theorem share (L : FVec Ideal S8192 .f32) (r : FVec Ideal S_ .f32) (i : Fin 8192) :
    addf (mulf (broadcastInDim S8192 ![] bcast_S_S8192 (constant S_ .f32 0x3F000000#32)) L)
        (broadcastInDim S8192 ![] bcast_S_S8192 (mulf (constant S_ .f32 0x3F000000#32) r)) (ix1 i)
      = Ideal.ofBits .f32 0x3F000000#32 * L (ix1 i) + Ideal.ofBits .f32 0x3F000000#32 * r ix0 := by
  pointwise

/-- The result is the mean of the shares. -/
theorem total_at : total X T ix0 = Ideal.div (∑ i, (Ideal.ofBits .f32 0x3F000000#32 * lik X T (ix1 i)
    + Ideal.ofBits .f32 0x3F000000#32 * rank X T ix0)) (Ideal.ofBits .f32 0x46000000#32) := by
  have e : total X T ix0 = Ideal.div (∑ i, terms X T (ix1 i)) (Ideal.ofBits .f32 0x46000000#32) := by
    pointwise [total]
  rw [e]
  exact congrArg (Ideal.div · _) (Finset.sum_congr rfl fun i _ => share (lik X T) (rank X T) i)

end Cert.ReferenceIdeal.Parts

end
-- ==== Proof.Equation.lean ====
/- The kernel's loss is the reference's, for targets the precondition admits. -/
module

public import proofs.«01_k».proof.Proof.Accs
public import proofs.«01_k».proof.Proof.Reference

@[expose] public section

set_option maxRecDepth 16384

noncomputable section

namespace Cert.Equation

open Cert.KernelIdeal.Point Cert.ReferenceIdeal.Parts
open Idealize.ShloMosaic Idealize.ShloMosaic.TcCoe Idealize.SL.Sem

abbrev S8192x128 : Shape := ⟨2, ![8192, 128]⟩
abbrev S128x8192 : Shape := ⟨2, ![128, 8192]⟩
abbrev S8192x2 : Shape := ⟨2, ![8192, 2]⟩
abbrev S8192x1 : Shape := ⟨2, ![8192, 1]⟩
abbrev S1x8192 : Shape := ⟨2, ![1, 8192]⟩

section Arith

/-- A real that is not negative distributes over a sum. -/
theorem mul_sum {ι : Type} [DecidableEq ι] (s : Finset ι) (f : ι → EReal) (h : ℝ) (h0 : 0 ≤ h) :
    ∑ i ∈ s, (h : EReal) * f i = (h : EReal) * ∑ i ∈ s, f i := by
  induction s using Finset.induction_on with
  | empty => simp
  | insert a s ha ih =>
    rw [Finset.sum_insert ha, Finset.sum_insert ha, ih,
      EReal.left_distrib_of_nonneg_of_ne_top (EReal.coe_nonneg.2 h0) (EReal.coe_ne_top h)]

/-- The word of one half. -/
theorem ofBits_half : Ideal.ofBits .f32 0x3F000000#32 = ((1 / 2 : ℝ) : EReal) := by
  simp [Ideal.ofBits, Ideal.ieee, -EReal.coe_mul]; norm_num

/-- The word of the number of examples. -/
theorem ofBits_8192 : Ideal.ofBits .f32 0x46000000#32 = ((8192 : ℝ) : EReal) := by
  simp [Ideal.ofBits, Ideal.ieee, -EReal.coe_mul]; norm_num

/-- The mean of half of each term and half of a constant is half the mean of the terms and half the constant. -/
theorem mean (f : Fin 8192 → EReal) (R : EReal) :
    Ideal.div (∑ i, (Ideal.ofBits .f32 0x3F000000#32 * f i + Ideal.ofBits .f32 0x3F000000#32 * R)) (Ideal.ofBits .f32 0x46000000#32)
      = Ideal.ofBits .f32 0x3F000000#32 * Ideal.div (∑ i, f i) (Ideal.ofBits .f32 0x46000000#32) + Ideal.ofBits .f32 0x3F000000#32 * R := by
  rw [ofBits_half, ofBits_8192]
  have h8 : ((8192 : ℝ) : EReal) ≠ 0 := by rw [Ne, EReal.coe_eq_zero]; norm_num
  unfold Ideal.div
  rw [if_neg h8, if_neg h8, Finset.sum_add_distrib, mul_sum _ _ _ (by norm_num), Finset.sum_const, Finset.card_univ, Fintype.card_fin,
    EReal.nsmul_eq_mul, ← EReal.coe_inv,
    EReal.right_distrib_of_nonneg_of_ne_top (EReal.coe_nonneg.2 (by norm_num)) (EReal.coe_ne_top _), mul_assoc]
  congr 1
  rw [mul_comm, ← mul_assoc, show (((8192 : ℝ)⁻¹ : ℝ) : EReal) * ((8192 : ℕ) : EReal) = 1 by
    rw [← EReal.coe_natCast, ← EReal.coe_mul, ← EReal.coe_one]; norm_num, one_mul]

end Arith

variable (X : FVec Ideal S8192x128 .f32) (T : FVec Ideal S8192x2 .f32) (d : Fin 8192 → Fin 128)
  (H : FVec Ideal S128x8192 .f32) (R : FVec Ideal S1x8192 .f32) (C : FVec Ideal S8192x1 .f32) (E : FVec Ideal S1x8192 .f32)

/-- The product with the one-hot array picks the prediction at the example's bin. -/
theorem prod_eq (hH : ∀ k i, H (ix2 k i) = if BitVec.ofNat 32 k.val = BitVec.ofNat 32 (d i).val then 1 else 0) (j i : Fin 8192) :
    prod X H j i = X (ix2 j (d i)) := by
  unfold prod
  rw [Finset.sum_eq_single (d i)]
  · rw [hH, if_pos rfl, mul_one]
  · intro k _ hk
    rw [hH, if_neg, mul_zero]
    intro e
    have hk' := k.isLt
    have hd := (d i).isLt
    have e' := congrArg BitVec.toNat e
    rw [BitVec.toNat_ofNat, BitVec.toNat_ofNat, Nat.mod_eq_of_lt (by omega), Nat.mod_eq_of_lt (by omega)] at e'
    exact hk (Fin.ext e')
  · intro h; exact absurd (Finset.mem_univ _) h

/-- The kernel's likelihood term is the reference's. -/
theorem lik_eq (hb : ∀ i, bins T (ix1 i) = BitVec.ofNat 32 (d i).val)
    (hH : ∀ k i, H (ix2 k i) = if BitVec.ofNat 32 k.val = BitVec.ofNat 32 (d i).val then 1 else 0)
    (hE : ∀ i, E (ix2 0 i) = T (ix2 i 1)) (i : Fin 8192) (he : T (ix2 i 1) = 0 ∨ T (ix2 i 1) = 1) :
    likTerm X H E i = lik X T (ix1 i) := by
  unfold likTerm
  rw [lik_at X T d hb, prod_eq X d H hH, hE]
  rcases he with he | he
  · rw [he, if_neg (by simp)]
  · rw [he, if_pos rfl]

open Classical in
/-- The kernel's ranking term is the reference's: the positive part of the difference for a comparable pair, zero for another. -/
theorem pair_eq (hH : ∀ k i, H (ix2 k i) = if BitVec.ofNat 32 k.val = BitVec.ofNat 32 (d i).val then 1 else 0)
    (hR : ∀ i, R (ix2 0 i) = T (ix2 i 0)) (hC : ∀ i, C (ix2 i 0) = T (ix2 i 0)) (hE : ∀ i, E (ix2 0 i) = T (ix2 i 1)) (i j : Fin 8192) :
    pair X H R C E i j = if Comparable T i j then max (X (ix2 j (d i)) - X (ix2 i (d i))) 0 else 0 := by
  unfold pair later bound
  rw [prod_eq X d H hH, prod_eq X d H hH, hR, hC, hE]
  by_cases h0 : T (ix2 i 0) < T (ix2 j 0)
  · rw [if_pos h0, mul_one]
    by_cases h1 : T (ix2 i 1) = 1
    · rw [if_pos h1, if_pos ⟨h0, h1⟩]
    · rw [if_neg h1, if_neg fun h => h1 h.2, EReal.sub_top]
      exact max_eq_right bot_le
  · rw [if_neg h0, mul_zero, if_neg fun h => h0 h.1]

/-- The kernel's count is the number of comparable pairs. -/
theorem count_eq (hR : ∀ i, R (ix2 0 i) = T (ix2 i 0)) (hC : ∀ i, C (ix2 i 0) = T (ix2 i 0)) (hE : ∀ i, E (ix2 0 i) = T (ix2 i 1)) :
    ∑ i, (∑ j, later R C i j) * (if E (ix2 0 i) = 1 then 1 else 0) = ((pairs T : ℝ) : EReal) := by
  classical
  rw [EReal.coe_natCast]
  unfold pairs
  rw [Nat.cast_sum]
  refine Finset.sum_congr rfl fun i _ => ?_
  rw [Nat.cast_sum, hE]
  unfold later
  by_cases h1 : T (ix2 i 1) = 1
  · rw [if_pos h1, mul_one]
    refine Finset.sum_congr rfl fun j _ => ?_
    rw [hR, hC]
    by_cases h0 : T (ix2 i 0) < T (ix2 j 0)
    · rw [if_pos h0, if_pos ⟨h0, h1⟩, Nat.cast_one]
    · rw [if_neg h0, if_neg fun h => h0 h.1, Nat.cast_zero]
  · rw [if_neg h1, mul_zero]
    exact (Finset.sum_eq_zero fun j _ => by rw [if_neg fun h => h1 h.2, Nat.cast_zero]).symm

/-- The mean ranking term, from a count that is a natural number. -/
theorem rank_eq (hb : ∀ i, bins T (ix1 i) = BitVec.ofNat 32 (d i).val)
    (hH : ∀ k i, H (ix2 k i) = if BitVec.ofNat 32 k.val = BitVec.ofNat 32 (d i).val then 1 else 0)
    (hR : ∀ i, R (ix2 0 i) = T (ix2 i 0)) (hC : ∀ i, C (ix2 i 0) = T (ix2 i 0)) (hE : ∀ i, E (ix2 0 i) = T (ix2 i 1)) :
    (if 0 < ∑ i, (∑ j, later R C i j) * (if E (ix2 0 i) = 1 then 1 else 0)
      then Ideal.div (∑ i, ∑ j, pair X H R C E i j) (max (∑ i, (∑ j, later R C i j) * (if E (ix2 0 i) = 1 then 1 else 0)) 1) else 0)
      = rank X T ix0 := by
  rw [count_eq T R C E hR hC hE, rank_at, rankSum_at X T d hb]
  by_cases h : 0 < pairs T
  · have h1 : (1 : ℝ) ≤ (pairs T : ℝ) := Nat.one_le_cast.2 h
    rw [if_pos h, if_pos (EReal.coe_pos.2 (Nat.cast_pos.2 h)), max_eq_left (by rw [← EReal.coe_one]; exact EReal.coe_le_coe_iff.2 h1)]
    exact congrArg (Ideal.div · _) (Finset.sum_congr rfl fun i _ => Finset.sum_congr rfl fun j _ => pair_eq X T d H R C E hH hR hC hE i j)
  · rw [if_neg h, if_neg fun h' => h (Nat.cast_pos.1 (EReal.coe_pos.1 h'))]

open Cert.KernelIdeal Cert.KernelIdeal.Accs in
/-- Under the precondition the kernel's loss is the reference's. -/
theorem loss_eq (m : (ℓ : Loc nD τ sig) → Buf (Elt Ideal) ℓ) (c : Dev nD)
    (hp : Cert.Pre_targets_in_range.fn (F := Ideal) (Entry.preds m c) (Entry.targets m c) = fun _ => 1#1) :
    loss m c = total (Entry.preds m c) (Entry.targets m c) ix0 := by
  have hpre := Bin.pre_at (Entry.preds m c) (Entry.targets m c) hp
  have hex : ∀ i, ∃ d : Fin 128, bins (Entry.targets m c) (ix1 i) = BitVec.ofNat 32 d.val := fun i => by
    rw [bins_at]
    exact Bin.word _ _ (hpre i).1 (hpre i).2.1 (Bin.le_longest _ i)
  choose d hb using hex
  have hH : ∀ k i, hot m c (ix2 k i) = if BitVec.ofNat 32 k.val = BitVec.ofNat 32 (d i).val then 1 else 0 := fun k i => by
    rw [← hb]; exact Entry.V16 m c k i
  have hR : ∀ i, durRow m c (ix2 0 i) = Entry.targets m c (ix2 i 0) := Entry.V17 m c
  have hC : ∀ i, durCol m c (ix2 i 0) = Entry.targets m c (ix2 i 0) := Entry.V18 m c
  have hE : ∀ i, evRow m c (ix2 0 i) = Entry.targets m c (ix2 i 1) := Entry.V19 m c
  unfold loss
  rw [total_at, mean, rank_eq (Entry.preds m c) (Entry.targets m c) d _ _ _ _ hb hH hR hC hE,
    Finset.sum_congr rfl fun i _ => lik_eq (Entry.preds m c) (Entry.targets m c) d _ _ hb hH hE i (hpre i).2.2]

end Cert.Equation

end
-- ==== Proof.lean ====
module

public import proofs.«01_k».proof.Defs
public import proofs.«01_k».proof.Proof.Gen.Pre_targets_in_range
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference's result, where its arguments are the kernel's and the precondition holds of them, is the kernel's loss. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_targets_in_range m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v67 m' c = fun _ => Cert.KernelIdeal.Accs.loss m c := by
  refine (Cert.ReferenceIdeal.Parts.res_eq m' c).trans ?_
  rw [h0, h1]
  exact funext fun i => (congrArg _ (funext fun d => d.elim0)).trans (Cert.Equation.loss_eq m c (hpre c)).symm

/-- The kernel and the reference, from equal arguments the precondition admits, end with equal results. -/
theorem algebraic : Cert.algebraic_KernelIdeal_ReferenceIdeal_pre_targets_in_range := by
  intro m g m' g' hpre hagree
  refine ⟨fun c _ => Cert.KernelIdeal.Accs.loss m c, Cert.KernelIdeal.Accs.run m g, ?_⟩
  exact (θ_run Cert.ReferenceIdeal.defs _ _).mono (fun r h c => ⟨(h c).1.trans (result_eq m m' hpre c (hagree c).1 (hagree c).2), (h c).2⟩)
    (Cert.ReferenceIdeal.Value.run m' g')

/-- Every claim of the certificate. -/
theorem claim : Cert.Claim := ⟨Cert.Kernel.Gen.facts, Cert.KernelIdeal.Gen.facts, Cert.ReferenceIdeal.Gen.facts, Cert.Pre_targets_in_range.Gen.facts,
  frame_kernel, frame_kernelIdeal, fun m ρ _ => frame_kernelIdeal m ρ trivial,
  frame_referenceIdeal, fun m ρ _ => frame_referenceIdeal m ρ trivial, trivial, algebraic⟩

end Cert.Proof

end
